-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "pad" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3136x128 : Shape := ⟨2, ![3136, 128]⟩
abbrev S100000x128 : Shape := ⟨2, ![100000, 128]⟩
abbrev S_ : Shape := ⟨0, ![]⟩

class Facts : Prop where
  bcast_S_S3136x128 : S_.BroadcastsInDim S3136x128 (![] : Fin 0 → Fin S3136x128.rank)
  bcast_S_S100000x128 : S_.BroadcastsInDim S100000x128 (![] : Fin 0 → Fin S100000x128.rank)

variable [Facts]

def fn {F : FTy → Type} [FloatOps F] (main_arg0 : FVec F S3136x128 .f32) (main_arg1 : FVec F S100000x128 .f32) : IVec S3136x128 1 × IVec S100000x128 1 :=
  let main_v0 : FVec F S3136x128 .f32 := Host.absf main_arg0
  let main_cst : FVec F S_ .f32 := constant S_ .f32 0x7F800000#32
  let main_v1 : FVec F S3136x128 .f32 := broadcastInDim S3136x128 ![] bcast_S_S3136x128 main_cst
  let main_v2 : IVec S3136x128 1 := cmpf .olt main_v0 main_v1
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  (main_v2, main_v5)
-- ==== Kernel.lean ====
abbrev S3136x128 : Shape := ⟨2, ![3136, 128]⟩
abbrev S100000x128 : Shape := ⟨2, ![100000, 128]⟩
abbrev S_ : Shape := ⟨0, ![]⟩
abbrev S4096x128 : Shape := ⟨2, ![4096, 128]⟩
abbrev S2048x128 : Shape := ⟨2, ![2048, 128]⟩
abbrev S8x2048 : Shape := ⟨2, ![8, 2048]⟩
abbrev S8x128 : Shape := ⟨2, ![8, 128]⟩
abbrev S3136x2048 : Shape := ⟨2, ![3136, 2048]⟩
abbrev S1x2048 : Shape := ⟨2, ![1, 2048]⟩
abbrev S4x1x784 : Shape := ⟨3, ![4, 1, 784]⟩
abbrev S4x1x128 : Shape := ⟨3, ![4, 1, 128]⟩
abbrev S3136 : Shape := ⟨1, ![3136]⟩
abbrev S4x784 : Shape := ⟨2, ![4, 784]⟩
abbrev S4 : Shape := ⟨1, ![4]⟩
abbrev S4x1x1 : Shape := ⟨3, ![4, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S3136x128, .f32⟩
  | .hbm, ⟨1, _⟩ => ⟨S100000x128, .f32⟩
  | .hbm, ⟨2, _⟩ => ⟨S_, .f32⟩
  | .hbm, ⟨3, _⟩ => ⟨S3136x128, .f32⟩
  | .hbm, ⟨4, _⟩ => ⟨S3136x128, .f32⟩
  | .hbm, ⟨5, _⟩ => ⟨S3136x128, .bf16⟩
  | .hbm, ⟨6, _⟩ => ⟨S3136x128, .f32⟩
  | .hbm, ⟨7, _⟩ => ⟨S4x1x784, .f32⟩
  | .hbm, ⟨8, _⟩ => ⟨S4x1x128, .f32⟩
  | .hbm, ⟨9, _⟩ => ⟨S3136, .f32⟩
  | .hbm, ⟨10, _⟩ => ⟨S4x1x1, .f32⟩
  | .hbm, ⟨11, _⟩ => ⟨S4, .f32⟩
  | .local _ .vmem, ⟨0, _⟩ => ⟨S3136x128, .bf16⟩
  | .local _ .vmem, ⟨1, _⟩ => ⟨S4096x128, .f32⟩
  | .local _ .vmem, ⟨2, _⟩ => ⟨S4096x128, .f32⟩
  | .local _ .vmem, ⟨3, _⟩ => ⟨S3136x128, .f32⟩
  | .local _ .vmem, ⟨4, _⟩ => ⟨S2048x128, .bf16⟩
  | .local _ .vmem, ⟨5, _⟩ => ⟨S8x2048, .f32⟩
  | .local _ .vmem, ⟨6, _⟩ => ⟨S2048x128, .bf16⟩
  | .local _ .vmem, ⟨7, _⟩ => ⟨S8x2048, .f32⟩
  | .local _ .vmem, ⟨8, _⟩ => ⟨S3136x128, .bf16⟩
  | .local _ .vmem, ⟨9, _⟩ => ⟨S3136x128, .f32⟩
  | .local _ .vmem, ⟨10, _⟩ => ⟨S4x1x784, .f32⟩
  | .local _ .vmem, ⟨11, _⟩ => ⟨S4x1x128, .f32⟩
  | _, _ => ⟨S3136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v125 : BitVec 1 := Scalar.cmpi .eq arg0 c0_i32
  let v126 : BitVec 32 := Scalar.extui v125
  let c0_i32_32 : BitVec 32 := 0#32
  let v127 : BitVec 1 := Scalar.cmpi .ne v126 c0_i32_32
  v127

def k0_cond2 (i : grid0.Coords) : BitVec 1 :=
  let arg0 : BitVec 32 := BitVec.ofNat 32 (i 0).val
  let c0_i32_33 : BitVec 32 := 0#32
  let v128 : BitVec 1 := Scalar.cmpi .sgt arg0 c0_i32_33
  let v129 : BitVec 32 := Scalar.extui v128
  let c0_i32_34 : BitVec 32 := 0#32
  let v130 : BitVec 1 := Scalar.cmpi .ne v129 c0_i32_34
  v130

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3136x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S3136x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3136x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1x784 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== KernelIdeal.lean ====
variable {F : FTy → Type} [FloatOps F] [Named F]
def κ : String → Option EReal := fun
  | "pad" => some ⊤
  | _ => none
-- ==== ReferenceIdeal.lean ====
abbrev S3136x128 : Shape := ⟨2, ![3136, 128]⟩
abbrev S100000x128 : Shape := ⟨2, ![100000, 128]⟩
abbrev S_ : Shape := ⟨0, ![]⟩
abbrev S3136 : Shape := ⟨1, ![3136]⟩
abbrev S3136x1 : Shape := ⟨2, ![3136, 1]⟩
abbrev S100000 : Shape := ⟨1, ![100000]⟩
abbrev S128x100000 : Shape := ⟨2, ![128, 100000]⟩
abbrev S3136x100000 : Shape := ⟨2, ![3136, 100000]⟩
abbrev S1x100000 : Shape := ⟨2, ![1, 100000]⟩
abbrev S4x784 : Shape := ⟨2, ![4, 784]⟩
abbrev S4 : Shape := ⟨1, ![4]⟩

abbrev nBuf : Space → Nat
  | .hbm => 38
  | .vmem => 0
  | .smem => 0
  | _ => 0

abbrev bufTy : (tb : Table) → Fin (tcTables nBuf tb) → BufTy
  | .hbm, ⟨0, _⟩ => ⟨S3136x128, .f32⟩
  | .hbm, ⟨1, _⟩ => ⟨S100000x128, .f32⟩
  | .hbm, ⟨2, _⟩ => ⟨S3136x128, .f32⟩
  | .hbm, ⟨3, _⟩ => ⟨S_, .f32⟩
  | .hbm, ⟨4, _⟩ => ⟨S3136, .f32⟩
  | .hbm, ⟨5, _⟩ => ⟨S3136x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S128x100000, .f32⟩
  | .hbm, ⟨10, _⟩ => ⟨S3136x100000, .f32⟩
  | .hbm, ⟨11, _⟩ => ⟨S_, .f32⟩
  | .hbm, ⟨12, _⟩ => ⟨S3136x100000, .f32⟩
  | .hbm, ⟨13, _⟩ => ⟨S3136x100000, .f32⟩
  | .hbm, ⟨14, _⟩ => ⟨S3136x100000, .f32⟩
  | .hbm, ⟨15, _⟩ => ⟨S3136x100000, .f32⟩
  | .hbm, ⟨16, _⟩ => ⟨S1x100000, .f32⟩
  | .hbm, ⟨17, _⟩ => ⟨S3136x100000, .f32⟩
  | .hbm, ⟨18, _⟩ => ⟨S3136x100000, .f32⟩
  | .hbm, ⟨19, _⟩ => ⟨S_, .f32⟩
  | .hbm, ⟨20, _⟩ => ⟨S3136x100000, .f32⟩
  | .hbm, ⟨21, _⟩ => ⟨S3136x100000, .f32⟩
  | .hbm, ⟨22, _⟩ => ⟨S3136x100000, .f32⟩
  | .hbm, ⟨23, _⟩ => ⟨S3136x1, .f32⟩
  | .hbm, ⟨24, _⟩ => ⟨S3136x1, .i32⟩
  | .hbm, ⟨25, _⟩ => ⟨S3136x1, .f32⟩
  | .hbm, ⟨26, _⟩ => ⟨S_, .f32⟩
  | .hbm, ⟨27, _⟩ => ⟨S3136, .f32⟩
  | .hbm, ⟨28, _⟩ => ⟨S_, .f32⟩
  | .hbm, ⟨29, _⟩ => ⟨S3136, .f32⟩
  | .hbm, ⟨30, _⟩ => ⟨S3136, .f32⟩
  | .hbm, ⟨31, _⟩ => ⟨S_, .f32⟩
  | .hbm, ⟨32, _⟩ => ⟨S3136, .f32⟩
  | .hbm, ⟨33, _⟩ => ⟨S3136, .f32⟩
  | .hbm, ⟨34, _⟩ => ⟨S3136, .f32⟩
  | .hbm, ⟨35, _⟩ => ⟨S4x784, .f32⟩
  | .hbm, ⟨36, _⟩ => ⟨S_, .f32⟩
  | .hbm, ⟨37, _⟩ => ⟨S4, .f32⟩
  | _, _ => ⟨S3136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Stream.lean ====
/-
  The streaming kernel, one grid point at a time. At a point it cleans its block of keys (rows past the last key
  become zero, their squared norms become the pad), forms the candidate distances of the two halves of the block
  against every query, and folds them lane by lane into the running minimum. This file states what a point leaves
  in its buffers, and the pipeline's data for all twenty-five points.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## One point -/

/-- The first and the second half of a block of keys, and the first of the eight equal rows of squared norms. -/
abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0
abbrev rRow : Rect S8x2048 := Rect.unit (s := S8x2048) ![0, 0] S1x2048.size inb_S8x2048_S1x2048_0_0

/-- How many keys are left from the second half of the block on. -/
abbrev leftHi (i : grid0.Coords) : BitVec 32 :=
  Scalar.subi (Scalar.subi 100000#32 (Scalar.muli (BitVec.ofNat 32 (i 0).val) 4096#32)) 2048#32

/-- The keys and the squared norms of the two halves, as the point leaves them in its scratch buffers. -/
abbrev keysLo (i : grid0.Coords) (X : Vec F S4096x128 .f32) : Vec F S2048x128 .bf16 := k0_pay2 i (View.ld X rLo)
abbrev normLo (i : grid0.Coords) (X : Vec F S4096x128 .f32) : Vec F S8x2048 .f32 := k0_pay3 i (View.ld X rLo)
abbrev keysHi (i : grid0.Coords) (X : Vec F S4096x128 .f32) : Vec F S2048x128 .bf16 := k0_pay5 i (View.ld X rHi)
abbrev normHi (i : grid0.Coords) (X : Vec F S4096x128 .f32) : Vec F S8x2048 .f32 :=
  k0_pay7 (leftHi i) (k0_pay6 i (View.ld X rHi))

/-- The minimum, lane by lane, of the candidate distances of the point. -/
def tileMin (i : grid0.Coords) (Q : Vec F S3136x128 .bf16) (X : Vec F S4096x128 .f32) : Vec F S3136x128 .f32 :=
  k0_pay12 (k0_pay9 Q (keysLo i X) (View.ld (normLo i X) rRow)) (k0_pay10 Q (keysLo i X) (View.ld (normLo i X) rRow))
    (k0_pay11 Q (keysLo i X) (View.ld (normLo i X) rRow)) Q (keysHi i X) (View.ld (normHi i X) rRow)

/-- The running minimum after a later point. -/
def fold (i : grid0.Coords) (Q : Vec F S3136x128 .bf16) (X : Vec F S4096x128 .f32) (Y : Vec F S3136x128 .f32) :
    Vec F S3136x128 .f32 :=
  k0_pay13 (k0_pay9 Q (keysLo i X) (View.ld (normLo i X) rRow)) (k0_pay10 Q (keysLo i X) (View.ld (normLo i X) rRow))
    (k0_pay11 Q (keysLo i X) (View.ld (normLo i X) rRow)) Q (keysHi i X) (View.ld (normHi i X) rRow) Y

theorem fold_eq (i : grid0.Coords) (Q : Vec F S3136x128 .bf16) (X : Vec F S4096x128 .f32) (Y : Vec F S3136x128 .f32) :
    fold i Q X Y = minimumf (shapeCast S3136x128 Y shapeCasts_S3136x128_S3136x128) (tileMin i Q X) := by
  unfold fold tileMin k0_pay13; rfl

/-- What the running minimum's buffer holds after a point that found `Y` there. -/
def step (i : grid0.Coords) (Q : Vec F S3136x128 .bf16) (X : Vec F S4096x128 .f32) (Y : Vec F S3136x128 .f32) :
    Vec F S3136x128 .f32 :=
  if (i 0).val = 0 then tileMin i Q X else fold i Q X Y

theorem cond1_iff : ∀ i : grid0.Coords, k0_cond1 i = 1#1 ↔ (i 0).val = 0 := by decide +kernel
theorem cond2_iff : ∀ i : grid0.Coords, k0_cond2 i = 1#1 ↔ (i 0).val ≠ 0 := by decide +kernel

/-- The four scratch buffers and the final kernel's four staging buffers, at any contents. -/
abbrev rest0 (c : Dev nD) : sProp 𝕄 := Pipeline.scopedRest spec0 c

set_option maxHeartbeats 4000000 in
/-- The body at a point: the query block and the block of keys stay, the running minimum moves by `step`. -/
theorem body0 (c : Dev nD) (E : Set ℕ) (i : grid0.Coords) (s0 : Fin 1) (s1 : Fin 2) (s2 : Fin 1)
    (Q : Vec F S3136x128 .bf16) (X : Vec F S4096x128 .f32) (Y : Vec F S3136x128 .f32) (K : PUnit → sProp 𝕄) :
    iprop(rest0 c ∗ (owns (c : Thread nD τ) (win0_0.stage s0) fullShare Q ∗ owns (c : Thread nD τ) (win0_1.stage s1) fullShare X
            ∗ owns (c : Thread nD τ) (win0_2.stage s2) fullShare Y)
          ∗ (iprop(rest0 c ∗ owns (c : Thread nD τ) (win0_0.stage s0) fullShare Q ∗ owns (c : Thread nD τ) (win0_1.stage s1) fullShare X
            ∗ owns (c : Thread nD τ) (win0_2.stage s2) fullShare (step i Q X Y)) -∗ K ⟨⟩))
      ⊢ wp frame (wpE (defs₀ (F := F)) Variants.none c none) E
          (cc0__lambda_ i (win0_0.stage s0) (hstage0_0 (s0.cast nbuf0_0)) (win0_1.stage s1) (hstage0_1 (s1.cast nbuf0_1))
            (win0_2.stage s2) (hstage0_2 (s2.cast nbuf0_2))
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  have hz : (![0, 0] : Fin 2 → Nat) = fun _ => 0 := funext fun a => by fin_cases a <;> rfl
  unfold rest0
  rw [scopedRest0_eq]
  fin_cases s0
  fin_cases s2
  -- a whole load reads the contents, a whole store leaves its payload
  have hr0 : (Memref.whole cc0_stg0_0 : Memref sig .tc _ _ _).view.readAt (Elt F) (Rect.unit (s := S3136x128) ![0, 0] S3136x128.size
      inb_S3136x128_S3136x128_0_0).toLoadRect = id := funext (Memref.readAt_unit_zero (Elt F) cc0_stg0_0 hz _)
  have hr2 : (Memref.whole cc0_stg2_0 : Memref sig .tc _ _ _).view.readAt (Elt F) (Rect.unit (s := S3136x128) ![0, 0] S3136x128.size
      inb_S3136x128_S3136x128_0_0).toLoadRect = id := funext (Memref.readAt_unit_zero (Elt F) cc0_stg2_0 hz _)
  have hra : (Memref.whole cc0_scratch0 : Memref sig .tc _ _ _).view.readAt (Elt F) (Rect.unit (s := S2048x128) ![0, 0] S2048x128.size
      inb_S2048x128_S2048x128_0_0).toLoadRect = id := funext (Memref.readAt_unit_zero (Elt F) cc0_scratch0 hz _)
  have hrc : (Memref.whole cc0_scratch2 : Memref sig .tc _ _ _).view.readAt (Elt F) (Rect.unit (s := S2048x128) ![0, 0] S2048x128.size
      inb_S2048x128_S2048x128_0_0).toLoadRect = id := funext (Memref.readAt_unit_zero (Elt F) cc0_scratch2 hz _)
  have hw2 : ∀ f w, (((Memref.whole cc0_stg2_0).access (Rect.unit (s := S3136x128) ![0, 0] S3136x128.size inb_S3136x128_S3136x128_0_0)) :
      View sig .tc _ _ _).write (Elt F) f w Finset.univ = w := Memref.write_access_unit_zero_univ (Elt F) cc0_stg2_0 hz _
  have hwa : ∀ f w, (((Memref.whole cc0_scratch0).access (Rect.unit (s := S2048x128) ![0, 0] S2048x128.size inb_S2048x128_S2048x128_0_0)) :
      View sig .tc _ _ _).write (Elt F) f w Finset.univ = w := Memref.write_access_unit_zero_univ (Elt F) cc0_scratch0 hz _
  have hwb : ∀ f w, (((Memref.whole cc0_scratch1).access (Rect.unit (s := S8x2048) ![0, 0] S8x2048.size inb_S8x2048_S8x2048_0_0)) :
      View sig .tc _ _ _).write (Elt F) f w Finset.univ = w := Memref.write_access_unit_zero_univ (Elt F) cc0_scratch1 hz _
  have hwc : ∀ f w, (((Memref.whole cc0_scratch2).access (Rect.unit (s := S2048x128) ![0, 0] S2048x128.size inb_S2048x128_S2048x128_0_0)) :
      View sig .tc _ _ _).write (Elt F) f w Finset.univ = w := Memref.write_access_unit_zero_univ (Elt F) cc0_scratch2 hz _
  have hwd : ∀ f w, (((Memref.whole cc0_scratch3).access (Rect.unit (s := S8x2048) ![0, 0] S8x2048.size inb_S8x2048_S8x2048_0_0)) :
      View sig .tc _ _ _).write (Elt F) f w Finset.univ = w := Memref.write_access_unit_zero_univ (Elt F) cc0_scratch3 hz _
  have hrb : ∀ f : Vec F S8x2048 .f32, (Memref.whole cc0_scratch1 : Memref sig .tc _ _ _).view.readAt (Elt F) rRow.toLoadRect f = View.ld (S := S8x2048) (e' := .f32) f rRow := fun _ => rfl
  have hrd : ∀ f : Vec F S8x2048 .f32, (Memref.whole cc0_scratch3 : Memref sig .tc _ _ _).view.readAt (Elt F) rRow.toLoadRect f = View.ld (S := S8x2048) (e' := .f32) f rRow := fun _ => rfl
  have hx0 : ∀ f : Vec F S4096x128 .f32, (Memref.whole cc0_stg1_0 : Memref sig .tc _ _ _).view.readAt (Elt F) rLo.toLoadRect f = View.ld (S := S4096x128) (e' := .f32) f rLo := fun _ => rfl
  have hx1 : ∀ f : Vec F S4096x128 .f32, (Memref.whole cc0_stg1_0 : Memref sig .tc _ _ _).view.readAt (Elt F) rHi.toLoadRect f = View.ld (S := S4096x128) (e' := .f32) f rHi := fun _ => rfl
  have hx2 : ∀ f : Vec F S4096x128 .f32, (Memref.whole cc0_stg1_1 : Memref sig .tc _ _ _).view.readAt (Elt F) rLo.toLoadRect f = View.ld (S := S4096x128) (e' := .f32) f rLo := fun _ => rfl
  have hx3 : ∀ f : Vec F S4096x128 .f32, (Memref.whole cc0_stg1_1 : Memref sig .tc _ _ _).view.readAt (Elt F) rHi.toLoadRect f = View.ld (S := S4096x128) (e' := .f32) f rHi := fun _ => rfl
  have hstep : step i Q X Y = if k0_cond1 i = 1#1 then tileMin i Q X else fold i Q X Y := by
    unfold step; simp only [cond1_iff]
  rw [hstep]
  by_cases h1 : k0_cond1 i = 1#1
  · have h2 : ¬ k0_cond2 i = 1#1 := fun h => (cond2_iff i).1 h ((cond1_iff i).1 h1)
    rw [if_pos h1]
    fin_cases s1 <;>
    · simp only [owns_whole_eq, cc0__lambda__eq_skeleton]
      unfold cc0__lambda__skel
      simp only [k0_part1_eq_skeleton, k0_part2_eq_skeleton, k0_part3_eq_skeleton]
      unfold k0_part1_skel k0_part2_skel k0_part3_skel
      simp only [dif_pos h1, dif_neg h2, Prog.lift, Prog.bind_op, Prog.bind_ret, pure_bind]
      iintro ⟨⟨⟨%g0, G0⟩, ⟨%g1, G1⟩, ⟨%g2, G2⟩, ⟨%g3, G3⟩, HR⟩, ⟨⟨%f0, %hf0, H0⟩, ⟨%f1, %hf1, H1⟩, ⟨%f2, %hf2, H2⟩⟩, Hk⟩
      sl_steps
      iapply Hk
      isplitl [G0 G1 G2 G3 HR]
      · isplitl [G0]; · iexists _; iexact G0
        isplitl [G1]; · iexists _; iexact G1
        isplitl [G2]; · iexists _; iexact G2
        isplitl [G3]; · iexists _; iexact G3
        iexact HR
      isplitl [H0]
      · iexists f0; isplitr; · ipureintro; exact hf0
        iexact H0
      isplitl [H1]
      · iexists f1; isplitr; · ipureintro; exact hf1
        iexact H1
      iexists _; isplitr; swap; · iexact H2
      ipureintro
      rw [hw2, hr0, hra, hrc, hwa, hwb, hwc, hwd, hrb, hrd]
      first | rw [hx0, hx1] | rw [hx2, hx3]
      obtain rfl := hf0.symm
      obtain rfl := hf1.symm
      obtain rfl := hf2.symm
      unfold tileMin
      simp only [id_eq]
      try with_reducible rfl
  · have h2 : k0_cond2 i = 1#1 := (cond2_iff i).2 fun h => h1 ((cond1_iff i).2 h)
    rw [if_neg h1]
    fin_cases s1 <;>
    · simp only [owns_whole_eq, cc0__lambda__eq_skeleton]
      unfold cc0__lambda__skel
      simp only [k0_part1_eq_skeleton, k0_part2_eq_skeleton, k0_part3_eq_skeleton]
      unfold k0_part1_skel k0_part2_skel k0_part3_skel
      simp only [dif_neg h1, dif_pos h2, Prog.lift, Prog.bind_op, Prog.bind_ret, pure_bind]
      iintro ⟨⟨⟨%g0, G0⟩, ⟨%g1, G1⟩, ⟨%g2, G2⟩, ⟨%g3, G3⟩, HR⟩, ⟨⟨%f0, %hf0, H0⟩, ⟨%f1, %hf1, H1⟩, ⟨%f2, %hf2, H2⟩⟩, Hk⟩
      sl_steps
      iapply Hk
      isplitl [G0 G1 G2 G3 HR]
      · isplitl [G0]; · iexists _; iexact G0
        isplitl [G1]; · iexists _; iexact G1
        isplitl [G2]; · iexists _; iexact G2
        isplitl [G3]; · iexists _; iexact G3
        iexact HR
      isplitl [H0]
      · iexists f0; isplitr; · ipureintro; exact hf0
        iexact H0
      isplitl [H1]
      · iexists f1; isplitr; · ipureintro; exact hf1
        iexact H1
      iexists _; isplitr; swap; · iexact H2
      ipureintro
      rw [hw2, hr0, hr2, hra, hrc, hwa, hwb, hwc, hwd, hrb, hrd]
      first | rw [hx0, hx1] | rw [hx2, hx3]
      obtain rfl := hf0.symm
      obtain rfl := hf1.symm
      obtain rfl := hf2.symm
      unfold fold
      simp only [id_eq]
      try with_reducible rfl

end Cert.KernelIdeal.Hand

end
-- ==== Proof.Mask.lean ====
/-
  Which keys a point of the streaming kernel keeps. The array of keys ends inside the last block, so the kernel
  compares each row's number with the count of keys left: a row past the end becomes zero, and its squared norm
  becomes the pad. What a point computes therefore does not depend on what lies past the end.
-/
module

public import proofs.«01_k».proof.Proof.Stream
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-- The count of keys left at a point, as the kernel's machine integers compute it, -/
theorem left_toInt : ∀ i : grid0.Coords,
    (Scalar.subi 100000#32 (Scalar.muli (BitVec.ofNat 32 (i 0).val) 4096#32)).toInt = 100000 - 4096 * ((i 0).val : Int) := by
  decide +kernel
/-- and from the second half of the block on. -/
theorem leftHi_toInt : ∀ i : grid0.Coords, (leftHi i).toInt = 100000 - 4096 * ((i 0).val : Int) - 2048 := by
  decide +kernel

/-- A row number below a count, compared as machine integers, is the comparison of numbers. -/
theorem select_slt {α : Type} (r : ℕ) (hr : r < 2048) (n : BitVec 32) (x y : α) :
    Scalar.select (IntOp.cmpi .slt (BitVec.ofNat 32 r) n) x y = if (r : Int) < n.toInt then x else y := by
  have h : (BitVec.ofNat 32 r).toInt = r := by
    rw [BitVec.toInt_ofNat']; rw [Int.bmod_def]; split <;> omega
  unfold Scalar.select IntOp.cmpi
  simp only [BitVec.slt, h]
  by_cases hc : (r : Int) < n.toInt <;> simp [hc]

theorem keep_lo (i : grid0.Coords) (v : Vec F S2048x128 .f32) (j : S2048x128.Idx) :
    k0_pay1 i v j = if 4096 * (i 0).val + (j 0).val < 100000 then v j else Scalar.ofBits .f32 0#32 := by
  have hj : (j 0).val < 2048 := (j 0).isLt
  have h := select_slt (j 0).val hj (Scalar.subi 100000#32 (Scalar.muli (BitVec.ofNat 32 (i 0).val) 4096#32)) (v j)
    (Scalar.ofBits (F := F) .f32 0#32)
  rw [left_toInt] at h
  refine (Eq.trans ?_ h).trans (if_congr ⟨fun _ => by omega, fun _ => by omega⟩ rfl rfl)
  unfold k0_pay1
  simp only [select_apply, cmpi_apply, iota_apply, broadcast_apply, List.foldl_cons, List.foldl_nil, Nat.zero_mul, Nat.zero_add]

theorem keep_hi (i : grid0.Coords) (v : Vec F S2048x128 .f32) (j : S2048x128.Idx) :
    k0_pay4 i v j = if 4096 * (i 0).val + 2048 + (j 0).val < 100000 then v j else Scalar.ofBits .f32 0#32 := by
  have hj : (j 0).val < 2048 := (j 0).isLt
  have h := select_slt (j 0).val hj (leftHi i) (v j) (Scalar.ofBits (F := F) .f32 0#32)
  rw [leftHi_toInt] at h
  refine (Eq.trans ?_ h).trans (if_congr ⟨fun _ => by omega, fun _ => by omega⟩ rfl rfl)
  unfold k0_pay4
  simp only [select_apply, cmpi_apply, iota_apply, broadcast_apply, List.foldl_cons, List.foldl_nil, Nat.zero_mul, Nat.zero_add]

/-- The rows of a block that are keys. -/
abbrev Inside (i : grid0.Coords) (j : S4096x128.Idx) : Prop := 4096 * (i 0).val + (j 0).val < 100000

/-- Blocks that agree on the rows that are keys give the same minimum. -/
theorem tileMin_congr (i : grid0.Coords) (Q : Vec F S3136x128 .bf16) (X X' : Vec F S4096x128 .f32)
    (h : ∀ j, Inside i j → X j = X' j) : tileMin i Q X = tileMin i Q X' := by
  have hlo : k0_pay1 i (View.ld X rLo) = k0_pay1 i (View.ld X' rLo) := by
    funext j
    rw [keep_lo, keep_lo]
    split
    · next hj => exact h _ (by show 4096 * (i 0).val + (0 + 1 * (j 0).val) < 100000; omega)
    · rfl
  have hhi : k0_pay4 i (View.ld X rHi) = k0_pay4 i (View.ld X' rHi) := by
    funext j
    rw [keep_hi, keep_hi]
    split
    · next hj => exact h _ (by show 4096 * (i 0).val + (2048 + 1 * (j 0).val) < 100000; omega)
    · rfl
  have h2 : keysLo i X = keysLo i X' := by unfold keysLo k0_pay2; rw [hlo]
  have h3 : normLo i X = normLo i X' := by unfold normLo k0_pay3; rw [hlo]
  have h5 : keysHi i X = keysHi i X' := by unfold keysHi k0_pay5; rw [hhi]
  have h6 : normHi i X = normHi i X' := by unfold normHi k0_pay6; rw [hhi]
  unfold tileMin
  rw [h2, h3, h5, h6]

theorem step_congr (i : grid0.Coords) (Q : Vec F S3136x128 .bf16) (X X' : Vec F S4096x128 .f32) (Y Y' : Vec F S3136x128 .f32)
    (h : ∀ j, Inside i j → X j = X' j) (hY : (i 0).val ≠ 0 → Y = Y') : step i Q X Y = step i Q X' Y' := by
  unfold step
  split
  · exact tileMin_congr i Q X X' h
  · next hi => rw [fold_eq, fold_eq, tileMin_congr i Q X X' h, hY hi]

end Cert.KernelIdeal.Hand

end
-- ==== Proof.StreamData.lean ====
/-
  The streaming kernel's pipeline data: what each of its buffers holds at every point, and that the kernel's body
  keeps to it. The block of keys at a point is the array's rows there, and zero past the array's end — what a
  fetch really leaves past the end is unknown, and by Mask.lean it does not matter.
-/
module

public import proofs.«01_k».proof.Proof.Mask

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- The block of keys at a point, zero past the array's end. -/
def keysBlk (K : Vec F S100000x128 .f32) (i : grid0.Coords) : Vec F S4096x128 .f32 := fun j =>
  if h : 4096 * (i 0).val + (j 0).val < 100000 then K (ValueIdx.ix2 ⟨4096 * (i 0).val + (j 0).val, h⟩ (j 1))
  else Scalar.ofBits .f32 0#32

/-- The running minimum before each point (whatever, before the first). -/
def run (Q : Vec F S3136x128 .bf16) (K : Vec F S100000x128 .f32) : ℕ → Vec F S3136x128 .f32
  | 0 => fun _ => Scalar.ofBits .f32 0#32
  | n + 1 => if h : n < grid0.N then step (grid0.coords ⟨n, h⟩) Q (keysBlk K (grid0.coords ⟨n, h⟩)) (run Q K n) else run Q K n

theorem run_succ (Q : Vec F S3136x128 .bf16) (K : Vec F S100000x128 .f32) (t : Fin grid0.N) :
    run Q K (t.val + 1) = step (grid0.coords t) Q (keysBlk K (grid0.coords t)) (run Q K t.val) := by
  show (if h : t.val < grid0.N then _ else _) = _
  rw [dif_pos t.isLt]

/-! ## Facts of the schedule, decided over the grid -/

theorem coord_eq : ∀ t : Fin grid0.N, (grid0.coords t 0).val = t.val := by decide +kernel
theorem moves : ∀ t : Fin grid0.N, win0_1.xsize (grid0.coords t) 0 = min 4096 (100000 - 4096 * t.val)
    ∧ win0_1.xsize (grid0.coords t) 1 = 128 := by decide +kernel
theorem idle_acc : ∀ i : grid0.Coords, idle0 2 i = false := by decide +kernel

theorem moved_of_inside (t : Fin grid0.N) (j : S4096x128.Idx) (h : Inside (grid0.coords t) j) :
    win0_1.moved (grid0.coords t) j = true := by
  refine (win0_1.moved_iff _ j).mpr fun a => ?_
  have h0 : (j 0).val < 4096 := (j 0).isLt
  have h1 : (j 1).val < 128 := (j 1).isLt
  unfold Inside at h; rw [coord_eq] at h
  fin_cases a
  · show (j 0).val < win0_1.xsize (grid0.coords t) 0
    rw [(moves t).1]; omega
  · show (j 1).val < win0_1.xsize (grid0.coords t) 1
    rw [(moves t).2]; exact h1

/-- The part of the block inside the array is what a fetch reads. -/
theorem cut_keysBlk (K : Vec F S100000x128 .f32) (t : Fin grid0.N) :
    win0_1.cut (grid0.coords t) (keysBlk K (grid0.coords t)) = (win0_1.blk t).view.read (Elt F) K := by
  funext j
  have hj0 : (j 0).val < min 4096 (100000 - 4096 * t.val) := by rw [← (moves t).1]; exact (j 0).isLt
  have hc := coord_eq t
  have hin : 4096 * (grid0.coords t 0).val + (win0_1.xinj (grid0.coords t) j 0).val < 100000 := by
    show 4096 * (grid0.coords t 0).val + (j 0).val < 100000
    omega
  show keysBlk K (grid0.coords t) (win0_1.xinj (grid0.coords t) j) = K _
  unfold keysBlk
  rw [dif_pos hin]
  congr 1
  funext a
  apply Fin.ext
  fin_cases a
  · show 4096 * (grid0.coords t 0).val + (j 0).val = (BitVec.ofNat 32 (grid0.coords t 0).val).toNat * 4096 + 1 * (j 0).val
    have : (grid0.coords t 0).val < 25 := (grid0.coords t 0).isLt
    rw [BitVec.toNat_ofNat, Nat.mod_eq_of_lt (by omega)]; omega
  · show (j 1).val = 0 * 128 + 1 * (j 1).val
    omega

/-- The queries' window is the whole array. -/
theorem read_whole (Q : Vec F S3136x128 .bf16) (t : Fin grid0.N) : (win0_0.blk t).view.read (Elt F) Q = Q := by
  funext j
  show Q _ = Q j
  congr 1
  funext a
  apply Fin.ext
  fin_cases a
  · show 0 * 3136 + 1 * (j 0).val = (j 0).val
    omega
  · show 0 * 128 + 1 * (j 1).val = (j 1).val
    omega

/-! ## The data -/

variable (Vc : Valuation τ sig (Elt F))

def dat0 (c : Dev nD) : Dat τ (Elt F) Unit ℕ (UR sig nD τ) ℕ cfg0 c where
  A w := Vc (Pipeline.arrRef spec0 w)
  after w t := match w with
    | ⟨0, _⟩ => (Vc main_v2 : Vec F S3136x128 .bf16)
    | ⟨1, _⟩ => keysBlk (Vc main_arg1) (grid0.coords t)
    | ⟨2, _⟩ => run (Vc main_v2) (Vc main_arg1) (t.val + 1)
  Φ _ := rest0 c
  q _ := fullShare
  owed _ := 0

theorem before_q (c : Dev nD) (t : Fin cfg0.N) (d) : (dat0 Vc c).before (0 : Fin 3) t d = (Vc main_v2 : Vec F S3136x128 .bf16) :=
  ((dat0 Vc c).before_in_eq_fetched (0 : Fin 3) rfl (fun _ => rfl) (fun _ _ _ => rfl)
    (fun t => (read_whole (Vc main_v2) t).symm) t d).trans (read_whole (Vc main_v2) t)

theorem before_k (c : Dev nD) (t : Fin cfg0.N) (d) :
    (dat0 Vc c).before (1 : Fin 3) t d = win0_1.fill (grid0.coords t) d ((win0_1.blk t).view.read (Elt F) (Vc main_arg1)) := by
  unfold Dat.before; rw [if_pos (fetch0_1 t)]; rfl

theorem before_k_inside (c : Dev nD) (t : Fin cfg0.N) (d) (j : S4096x128.Idx) (h : Inside (grid0.coords t) j) :
    (dat0 Vc c).before (1 : Fin 3) t d j = keysBlk (Vc main_arg1) (grid0.coords t) j := by
  rw [before_k, ← cut_keysBlk]
  unfold Window.fill
  rw [dif_pos (moved_of_inside t j h)]
  rfl

theorem before_a (c : Dev nD) (t : Fin cfg0.N) (ht : t.val ≠ 0) (d) :
    (dat0 Vc c).before (2 : Fin 3) t d = run (Vc main_v2) (Vc main_arg1) t.val := by
  have hN : t.val < 25 := lt_of_lt_of_eq t.isLt N_0
  rw [(dat0 Vc c).before_out_kept (2 : Fin 3) rfl t ht (by
    rw [Bool.eq_false_iff]; intro hf; have := (flush0_2 _).mp hf; simp only at this; omega) idle_acc (fun _ _ => rfl) d]
  show run _ _ (t.val - 1 + 1) = _
  rw [Nat.sub_add_cancel (Nat.one_le_iff_ne_zero.mpr ht)]

/-- What a point computes from what it finds is what the data say it leaves. -/
theorem step_found (c : Dev nD) (t : Fin cfg0.N) (d1 d2) :
    step (grid0.coords t) (Vc main_v2) ((dat0 Vc c).before (1 : Fin 3) t d1) ((dat0 Vc c).before (2 : Fin 3) t d2)
      = run (Vc main_v2) (Vc main_arg1) (t.val + 1) := by
  rw [run_succ]
  exact step_congr _ _ _ _ _ _ (fun j h => before_k_inside Vc c t d1 j h)
    (fun h => before_a Vc c t (by rwa [coord_eq] at h) d2)

theorem body_obligation0 (c : Dev nD) : BodyObligationLoose (dat0 Vc c) (defs₀ (F := F)) Variants.none () Set.univ := fun t => by
  rw [bigSep_W0, bigSep_W0]
  simp only [idle_acc]
  rw [show (dat0 Vc c).Φ t.succ = rest0 c from rfl, show (dat0 Vc c).Φ t.castSucc = rest0 c from rfl,
    show (dat0 Vc c).owesAt () t.succ = (dat0 Vc c).owesAt () t.castSucc from rfl]
  iintro ⟨HΦ, Ho, ⟨%d0, H0⟩, ⟨%d1, H1⟩, ⟨%d2, H2⟩⟩
  iapply (body0 (F := F) c Set.univ (grid0.coords t) (cfg0.slots t 0) (cfg0.slots t 1) (cfg0.slots t 2)
    ((dat0 Vc c).before (0 : Fin 3) t d0) ((dat0 Vc c).before (1 : Fin 3) t d1) ((dat0 Vc c).before (2 : Fin 3) t d2) _)
  isplitl [HΦ]; · iexact HΦ
  isplitl [H0 H1 H2]
  · isplitl [H0]
    · iexact H0
    isplitl [H1]
    · iexact H1
    · iexact H2
  iintro ⟨HΦ, H0, H1, H2⟩
  isplitl [HΦ]; · iexact HΦ
  isplitl [Ho]; · iexact Ho
  rw [before_q Vc c t d0, step_found Vc c t d1 d2]
  isplitl [H0]; · iexact H0
  isplitl [H1]
  · iexists d1
    change _ ⊢ owns (c : Thread nD τ) (win0_1.stage (cfg0.slots t 1)) fullShare
      (win0_1.fill (grid0.coords t) d1 (win0_1.cut (grid0.coords t) (keysBlk (Vc main_arg1) (grid0.coords t))))
    rw [cut_keysBlk, before_k]
    try iexact H1
  · rw [idle_acc]
    iexact H2

end Cert.KernelIdeal.Hand

end
-- ==== Proof.Final.lean ====
/-
  The final kernel, at its one grid point: from the queries and the lane-wise minima it leaves the distances and,
  in every lane of a row, the largest distance of each image.
-/
module

public import proofs.«01_k».proof.Proof.Stream

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## The one point -/

/-- The final kernel on its staging buffers: the two inputs unchanged, the two outputs at its two payloads. -/
theorem body1 (c : Dev nD) (E : Set ℕ) (Q : Vec F S3136x128 .bf16) (A : Vec F S3136x128 .f32) (Z2 : Vec F S4x1x784 .f32)
    (Z3 : Vec F S4x1x128 .f32) (K : PUnit → sProp 𝕄) :
    iprop((owns (c : Thread nD τ) (win1_0.stage 0) fullShare Q ∗ owns (c : Thread nD τ) (win1_1.stage 0) fullShare A
            ∗ owns (c : Thread nD τ) (win1_2.stage 0) fullShare Z2 ∗ owns (c : Thread nD τ) (win1_3.stage 0) fullShare Z3)
          ∗ (iprop(owns (c : Thread nD τ) (win1_0.stage 0) fullShare Q ∗ owns (c : Thread nD τ) (win1_1.stage 0) fullShare A
                  ∗ owns (c : Thread nD τ) (win1_2.stage 0) fullShare (k1_pay2 Q A)
                  ∗ owns (c : Thread nD τ) (win1_3.stage 0) fullShare (k1_pay3 Q A)) -∗ K ⟨⟩))
      ⊢ wp frame (wpE (defs₀ (F := F)) Variants.none c none) E
          (cc1__final_kernel (win1_0.stage 0) (hstage1_0 0) (win1_1.stage 0) (hstage1_1 0) (win1_2.stage 0) (hstage1_2 0)
            (win1_3.stage 0) (hstage1_3 0)) K := by
  have hz2 : (![0, 0] : Fin 2 → Nat) = fun _ => 0 := funext fun a => by fin_cases a <;> rfl
  have hz3 : (![0, 0, 0] : Fin 3 → Nat) = fun _ => 0 := funext fun a => by fin_cases a <;> rfl
  have hr0 : (Memref.whole cc1_stg0_0 : Memref sig .tc _ _ _).view.readAt (Elt F) (Rect.unit (s := S3136x128) ![0, 0] S3136x128.size
      inb_S3136x128_S3136x128_0_0).toLoadRect = id := funext (Memref.readAt_unit_zero (Elt F) cc1_stg0_0 hz2 _)
  have hr1 : (Memref.whole cc1_stg1_0 : Memref sig .tc _ _ _).view.readAt (Elt F) (Rect.unit (s := S3136x128) ![0, 0] S3136x128.size
      inb_S3136x128_S3136x128_0_0).toLoadRect = id := funext (Memref.readAt_unit_zero (Elt F) cc1_stg1_0 hz2 _)
  have hw2 : ∀ f w, (((Memref.whole cc1_stg2_0).access (Rect.unit (s := S4x1x784) ![0, 0, 0] S4x1x784.size inb_S4x1x784_S4x1x784_0_0_0)) :
      View sig .tc _ _ _).write (Elt F) f w Finset.univ = w := Memref.write_access_unit_zero_univ (Elt F) cc1_stg2_0 hz3 _
  have hw3 : ∀ f w, (((Memref.whole cc1_stg3_0).access (Rect.unit (s := S4x1x128) ![0, 0, 0] S4x1x128.size inb_S4x1x128_S4x1x128_0_0_0)) :
      View sig .tc _ _ _).write (Elt F) f w Finset.univ = w := Memref.write_access_unit_zero_univ (Elt F) cc1_stg3_0 hz3 _
  simp only [owns_whole_eq, cc1__final_kernel_eq_skeleton]; unfold cc1__final_kernel_skel
  simp only [Prog.lift, Prog.bind_op, Prog.bind_ret, pure_bind]
  iintro ⟨⟨⟨%f0, %hf0, H0⟩, ⟨%f1, %hf1, H1⟩, ⟨%f2, %hf2, H2⟩, ⟨%f3, %hf3, H3⟩⟩, Hk⟩
  sl_steps
  iapply Hk
  rw [hr0, hr1, hw2, hw3]
  obtain rfl := hf0.symm
  obtain rfl := hf1.symm
  simp only [id_eq]
  isplitl [H0]
  · iexists Q; isplitr; · ipureintro; with_reducible rfl
    iexact H0
  isplitl [H1]
  · iexists A; isplitr; · ipureintro; with_reducible rfl
    iexact H1
  isplitl [H2]
  · iexists k1_pay2 Q A; isplitr; · ipureintro; with_reducible rfl
    iexact H2
  · iexists k1_pay3 Q A; isplitr; · ipureintro; with_reducible rfl
    iexact H3

/-! ## The data -/

variable (Vc : Valuation τ sig (Elt F))

def dat1 (c : Dev nD) : Dat τ (Elt F) Unit ℕ (UR sig nD τ) ℕ cfg1 c where
  A w := Vc (Pipeline.arrRef spec1 w)
  after w _ := match w with
    | ⟨0, _⟩ => (Vc main_v2 : Vec F S3136x128 .bf16)
    | ⟨1, _⟩ => (Vc main_v3 : Vec F S3136x128 .f32)
    | ⟨2, _⟩ => k1_pay2 (Vc main_v2) (Vc main_v3)
    | ⟨3, _⟩ => k1_pay3 (Vc main_v2) (Vc main_v3)
  Φ _ := Pipeline.scopedRest spec1 c
  q _ := fullShare
  owed _ := 0

theorem read_whole1_0 (Q : Vec F S3136x128 .bf16) (t : Fin grid1.N) : (win1_0.blk t).view.read (Elt F) Q = Q := by
  funext j
  show Q _ = Q j
  congr 1
  funext a
  apply Fin.ext
  fin_cases a
  · show 0 * 3136 + 1 * (j 0).val = (j 0).val
    omega
  · show 0 * 128 + 1 * (j 1).val = (j 1).val
    omega
theorem read_whole1_1 (A : Vec F S3136x128 .f32) (t : Fin grid1.N) : (win1_1.blk t).view.read (Elt F) A = A := by
  funext j
  show A _ = A j
  congr 1
  funext a
  apply Fin.ext
  fin_cases a
  · show 0 * 3136 + 1 * (j 0).val = (j 0).val
    omega
  · show 0 * 128 + 1 * (j 1).val = (j 1).val
    omega

theorem before1_q (c : Dev nD) (t : Fin cfg1.N) (d) : (dat1 Vc c).before (0 : Fin 4) t d = (Vc main_v2 : Vec F S3136x128 .bf16) := by
  unfold Dat.before; rw [if_pos (fetch1_0 t)]; exact read_whole1_0 (Vc main_v2) t
theorem before1_a (c : Dev nD) (t : Fin cfg1.N) (d) : (dat1 Vc c).before (1 : Fin 4) t d = (Vc main_v3 : Vec F S3136x128 .f32) := by
  unfold Dat.before; rw [if_pos (fetch1_1 t)]; exact read_whole1_1 (Vc main_v3) t

theorem body_obligation1 (c : Dev nD) : BodyObligationLoose (dat1 Vc c) (defs₀ (F := F)) Variants.none () Set.univ := fun t => by
  obtain rfl := fin_N1 t
  rw [bigSep_W1, bigSep_W1]
  simp only
  rw [show (dat1 Vc c).Φ (Fin.succ _) = Pipeline.scopedRest spec1 c from rfl,
    show (dat1 Vc c).Φ (Fin.castSucc _) = Pipeline.scopedRest spec1 c from rfl,
    show (dat1 Vc c).owesAt () (Fin.succ _) = (dat1 Vc c).owesAt () (Fin.castSucc _) from rfl]
  iintro ⟨HΦ, Ho, ⟨%d0, H0⟩, ⟨%d1, H1⟩, ⟨%d2, H2⟩, ⟨%d3, H3⟩⟩
  rw [before1_q, before1_a]
  iapply (body1 (F := F) c Set.univ (Vc main_v2) (Vc main_v3) ((dat1 Vc c).before (2 : Fin 4) t1_0 d2)
    ((dat1 Vc c).before (3 : Fin 4) t1_0 d3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.Whole.lean ====
/-
  The whole program: the two kernels between the host's operations. Every run ends, and at the end every buffer
  outside the kernels' own holds what this file's last valuation says: the host's results from the two kernels'
  outputs, those from the queries, the keys and the running minimum after the last point.
-/
module

public import proofs.«01_k».proof.Proof.StreamData
public import proofs.«01_k».proof.Proof.Final
public import proofs.«01_k».proof.Proof.Gen.KernelIdeal.Regions
public import Idealize.ShloMosaic.Lib.Pipeline.RegionArrays
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf Seg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the two kernels leave -/

/-- The scaled queries and the keys as the first kernel finds them, and the minima it leaves. -/
def queries (c : Dev nD) : Vec F S3136x128 .bf16 := V1 m c main_v2
def minima (c : Dev nD) : Vec F S3136x128 .f32 := run (queries m c) (V1 m c main_arg1) 25

/-- What each kernel leaves in the arrays it writes. -/
def outs : Outs (F := F) := fun _ r c =>
  if h3 : r = main_v3 then h3 ▸ (minima m c : Buf (Elt F) ((c : Thread nD τ).loc main_v3))
  else if h0 : r = main_v4_0 then h0 ▸ (k1_pay2 (queries m c) (minima m c) : Buf (Elt F) ((c : Thread nD τ).loc main_v4_0))
  else if h1 : r = main_v4_1 then h1 ▸ (k1_pay3 (queries m c) (minima m c) : Buf (Elt F) ((c : Thread nD τ).loc main_v4_1))
  else m ((c : Thread nD τ).loc r)

theorem outs_v3 (n : ℕ) (c : Dev nD) : outs m n main_v3 c = minima m c := by
  unfold outs; rw [dif_pos rfl]
theorem outs_v4_0 (n : ℕ) (c : Dev nD) : outs m n main_v4_0 c = k1_pay2 (queries m c) (minima m c) := by
  unfold outs; rw [dif_neg (by decide), dif_pos rfl]
theorem outs_v4_1 (n : ℕ) (c : Dev nD) : outs m n main_v4_1 c = k1_pay3 (queries m c) (minima m c) := by
  unfold outs; rw [dif_neg (by decide), dif_neg (by decide), dif_pos rfl]

def dats : (p : Fin 2) → (c : Dev nD) → Dat τ (Elt F) Unit ℕ (UR sig nD τ) ℕ (cfgs p) c
  | ⟨0, _⟩, c => dat0 (V1 m c) c
  | ⟨1, _⟩, c => dat1 (V2 m (outs m) c) c

/-! ## The arrays after the last point -/

theorem emb_acc (t : Fin grid0.N) (j : S3136x128.Idx) : (win0_2.blk t).view.emb j = j := by
  funext a
  apply Fin.ext
  fin_cases a
  · show 0 * 3136 + 1 * (j 0).val = (j 0).val
    omega
  · show 0 * 128 + 1 * (j 1).val = (j 1).val
    omega
theorem emb_dist (t : Fin grid1.N) (j : S4x1x784.Idx) : (win1_2.blk t).view.emb j = j := by
  funext a
  apply Fin.ext
  fin_cases a
  · show 0 * 4 + 1 * (j 0).val = (j 0).val
    omega
  · show 0 * 1 + 1 * (j 1).val = (j 1).val
    omega
  · show 0 * 784 + 1 * (j 2).val = (j 2).val
    omega
theorem emb_max (t : Fin grid1.N) (j : S4x1x128.Idx) : (win1_3.blk t).view.emb j = j := by
  funext a
  apply Fin.ext
  fin_cases a
  · show 0 * 4 + 1 * (j 0).val = (j 0).val
    omega
  · show 0 * 1 + 1 * (j 1).val = (j 1).val
    omega
  · show 0 * 128 + 1 * (j 2).val = (j 2).val
    omega

variable (Vc : Valuation τ sig (Elt F))

theorem end_acc (c : Dev nD) : (dat0 Vc c).arrAt (2 : Fin 3) cfg0.N = run (Vc main_v2) (Vc main_arg1) 25 := by
  refine (dat0 Vc c).arrAt_eq_of_cover (2 : Fin 3) _ (fun t hf => ?_) (fun i => ?_)
  · have hN : t.val < 25 := lt_of_lt_of_eq t.isLt N_0
    have h24 : t.val = 24 := by have := (flush0_2 t).mp hf; omega
    funext j
    show run (Vc main_v2) (Vc main_arg1) (t.val + 1) j = run (Vc main_v2) (Vc main_arg1) 25 ((win0_2.blk t).view.emb j)
    rw [emb_acc, h24]
  · have hN : 24 < cfg0.N := lt_of_lt_of_eq (by decide) N_0.symm
    refine ⟨⟨24, hN⟩, (flush0_2 _).mpr rfl, ?_⟩
    have h := (win0_2.blk ⟨24, hN⟩).view.emb_mem_set i
    rwa [emb_acc] at h

theorem end_dist (c : Dev nD) : (dat1 Vc c).arrAt (2 : Fin 4) cfg1.N = k1_pay2 (Vc main_v2) (Vc main_v3) := by
  refine (dat1 Vc c).arrAt_eq_of_cover (2 : Fin 4) _ (fun t hf => ?_) (fun i => ⟨t1_0, flush1_2 _, ?_⟩)
  · funext j
    show k1_pay2 (Vc main_v2) (Vc main_v3) j = k1_pay2 (Vc main_v2) (Vc main_v3) ((win1_2.blk t).view.emb j)
    rw [emb_dist]
  · have h := (win1_2.blk t1_0).view.emb_mem_set i
    rwa [emb_dist] at h
theorem end_max (c : Dev nD) : (dat1 Vc c).arrAt (3 : Fin 4) cfg1.N = k1_pay3 (Vc main_v2) (Vc main_v3) := by
  refine (dat1 Vc c).arrAt_eq_of_cover (3 : Fin 4) _ (fun t hf => ?_) (fun i => ⟨t1_0, flush1_3 _, ?_⟩)
  · funext j
    show k1_pay3 (Vc main_v2) (Vc main_v3) j = k1_pay3 (Vc main_v2) (Vc main_v3) ((win1_3.blk t).view.emb j)
    rw [emb_max]
  · have h := (win1_3.blk t1_0).view.emb_mem_set i
    rwa [emb_max] at h

/-! ## A kernel's region between two valuations -/

abbrev Lnone : GSem nD τ sig → Finset Unit := fun _ => ∅
abbrev lv0 : GSem nD τ sig → Unit → ℕ := fun _ _ => 0
/-- What rides along: the core's debts, none. -/
abbrev owesNone (c : Dev nD) : sProp 𝕄 := iprop(∃ W, owes (c : Thread nD τ) (0 : CellTallies nD τ sig Unit) W)

set_option backward.isDefEq.respectTransparency.types false in
/-- A kernel entered with every unscoped buffer at `V` and left with them at `V'`: its arrays are `V`'s at entry and
    `V'`'s at the end, and off its arrays the two agree. -/
def region (p : Fin 2) (kit : Pipeline.PLaunchFacts (nD := nD) (τ := τ) (pcfgs (F := F)) p) (hK : (pcfgs (F := F) p).pre.K = 0)
    (pdats : (p : Fin 2) → (c : Dev nD) → Dat τ (Elt F) Unit ℕ (UR sig nD τ) ℕ (cfgs p) c)
    (hbody : ∀ c, BodyObligationLoose (pdats p c) (defs₀ (F := F)) Variants.none () Set.univ)
    (howed : ∀ c t, (pdats p c).owed t = 0) (hrec : ∀ c, (pdats p c).recorded 0 = Set.univ)
    (hΦ : ∀ c t, (pdats p c).Φ t = Pipeline.scopedRest (cfgs p).spec c)
    (hshare : ∀ c w, (pdats p c).share w = fullShare)
    (V V' : Dev nD → Valuation τ sig (Elt F))
    (hA : ∀ c w, (pdats p c).arrAt w 0 = V c (Proc.devRef .tc (Pipeline.arrRef (cfgs p).spec w)))
    (hA' : ∀ c w, (pdats p c).arrAt w (cfgs p).N = V' c (Proc.devRef .tc (Pipeline.arrRef (cfgs p).spec w)))
    (hoff : ∀ c, ∀ b ∈ Pipeline.ucRefs τ sig \ Pipeline.arrRefs (τ := τ) (cfgs p).spec, V c b = V' c b) :
    RegionSeg (pcfgs (F := F)) adm pdats () defs₀ Variants.none Lnone lv0 p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ Lnone lv0 p howed
  pre c := iprop(StableHlo.held (c : Thread nD τ) (Pipeline.ucRefs τ sig) (V c) ∗ owesNone c)
  post c := iprop(StableHlo.held (c : Thread nD τ) (Pipeline.ucRefs τ sig) (V' c) ∗ owesNone c)
  X c := iprop(emp)
  Y c := iprop(emp)
  Z c := StableHlo.held (c : Thread nD τ) (Pipeline.ucRefs τ sig \ Pipeline.arrRefs (cfgs p).spec) (V c)
  hentry c := by
    rw [Pipeline.ownSems0_none, Pipeline.prefHeld_of_none _ hK,
      StableHlo.held_sub_split (c : Thread nD τ) (Pipeline.arrRefs_sub_ucRefs (cfgs p).spec kit.win.arr_unscoped) (V c),
      ← Pipeline.arrays_held (pcfgs (F := F)) adm pdats p kit c (hshare c) ((pdats p c).arrAt · 0) (V c) (hA c)]
    iintro ⟨⟨⟨Ha, Hz⟩, HO⟩, -, -⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hz
  hin c := by
    rw [hΦ]
    iintro ⟨-, -, Hr⟩
    iexact Hr
  hout c := by
    rw [hΦ, Pipeline.ownSems0_none]
    iintro Hr
    isplitr; · iempintro
    isplitr; · iempintro
    iexact Hr
  hexit c := by
    rw [StableHlo.held_sub_split (c : Thread nD τ) (Pipeline.arrRefs_sub_ucRefs (cfgs p).spec kit.win.arr_unscoped) (V' c),
      ← Pipeline.arrays_held (pcfgs (F := F)) adm pdats p kit c (hshare c) ((pdats p c).arrAt · (cfgs p).N) (V' c) (hA' c),
      StableHlo.held_congr (c : Thread nD τ) (hoff c)]
    iintro ⟨Ha, HO, -, Hz⟩
    imodintro
    isplitr [HO]
    · isplitl [Ha]; · iexact Ha
      iexact Hz
    · unfold Pipeline.Dat.owesAt Pipeline.owesWithin
      rw [howed c (Fin.last _)]
      icases HO with ⟨%W, -, HO⟩; iexists W; iexact HO

/-! ## The two kernels' regions -/

theorem mem_arr0 (w : Fin 3) : Proc.devRef (τ := τ) .tc (Pipeline.arrRef spec0 w) ∈ Pipeline.arrRefs (τ := τ) spec0 :=
  Finset.mem_map.mpr ⟨_, Finset.mem_image.mpr ⟨w, Finset.mem_univ _, rfl⟩, rfl⟩
theorem mem_arr1 (w : Fin 4) : Proc.devRef (τ := τ) .tc (Pipeline.arrRef spec1 w) ∈ Pipeline.arrRefs (τ := τ) spec1 :=
  Finset.mem_map.mpr ⟨_, Finset.mem_image.mpr ⟨w, Finset.mem_univ _, rfl⟩, rfl⟩

theorem V2_v3 (c : Dev nD) : V2 m (outs m) c main_v3 = minima m c :=
  (Function.update_self _ _ _).trans (outs_v3 m 2 c)
theorem V2_v2 (c : Dev nD) : V2 m (outs m) c main_v2 = queries m c := V2_of m (outs m) c main_v2 (by decide)
theorem V3_v4_1 (c : Dev nD) : V3 m (outs m) c main_v4_1 = k1_pay3 (queries m c) (minima m c) :=
  (Function.update_self _ _ _).trans (outs_v4_1 m 3 c)
theorem V3_v4_0 (c : Dev nD) : V3 m (outs m) c main_v4_0 = k1_pay2 (queries m c) (minima m c) :=
  (Function.update_of_ne (StableHlo.devRef_ne_of_ne (by decide)) _ _).trans ((Function.update_self _ _ _).trans (outs_v4_0 m 3 c))

theorem exit0 (c : Dev nD) : ∀ w : Fin 3, (dats m 0 c).arrAt w cfg0.N = V2 m (outs m) c (Proc.devRef .tc (Pipeline.arrRef spec0 w))
  | 0 => ((dat0 (V1 m c) c).arrAt_in (0 : Fin 3) rfl _).trans (V2_of m (outs m) c main_v2 (by decide)).symm
  | 1 => ((dat0 (V1 m c) c).arrAt_in (1 : Fin 3) rfl _).trans (V2_of m (outs m) c main_arg1 (by decide)).symm
  | 2 => (end_acc (V1 m c) c).trans (V2_v3 m c).symm

theorem exit1 (c : Dev nD) : ∀ w : Fin 4, (dats m 1 c).arrAt w cfg1.N = V3 m (outs m) c (Proc.devRef .tc (Pipeline.arrRef spec1 w))
  | 0 => ((dat1 (V2 m (outs m) c) c).arrAt_in (0 : Fin 4) rfl _).trans (V3_of m (outs m) c main_v2 (by decide)).symm
  | 1 => ((dat1 (V2 m (outs m) c) c).arrAt_in (1 : Fin 4) rfl _).trans (V3_of m (outs m) c main_v3 (by decide)).symm
  | 2 => (end_dist (V2 m (outs m) c) c).trans (by rw [V2_v2, V2_v3]; exact (V3_v4_0 m c).symm)
  | 3 => (end_max (V2 m (outs m) c) c).trans (by rw [V2_v2, V2_v3]; exact (V3_v4_1 m c).symm)

def region0 : RegionSeg (pcfgs (F := F)) adm (dats m) () defs₀ Variants.none Lnone lv0 0 :=
  region 0 launch0.toP rfl (dats m) (fun c => body_obligation0 (V1 m c) c) (fun _ _ => rfl) (fun _ => rfl) (fun _ _ => rfl)
    (fun c => (dats m 0 c).share_full fun _ => rfl) (V1 m) (V2 m (outs m)) (fun _ _ => rfl) (exit0 m)
    (fun c b hb => (Function.update_of_ne (fun h => (Finset.mem_sdiff.mp hb).2 ((congrArg (· ∈ Pipeline.arrRefs (τ := τ) spec0) h).mpr (mem_arr0 2))) _ _).symm)

def region1 : RegionSeg (pcfgs (F := F)) adm (dats m) () defs₀ Variants.none Lnone lv0 1 :=
  region 1 launch1.toP rfl (dats m) (fun c => body_obligation1 (V2 m (outs m) c) c) (fun _ _ => rfl) (fun _ => rfl) (fun _ _ => rfl)
    (fun c => (dats m 1 c).share_full fun _ => rfl) (V2 m (outs m)) (V3 m (outs m)) (fun _ _ => rfl) (exit1 m)
    (fun c b hb => ((Function.update_of_ne (fun h => (Finset.mem_sdiff.mp hb).2 ((congrArg (· ∈ Pipeline.arrRefs (τ := τ) spec1) h).mpr (mem_arr1 3))) _ _).trans
      (Function.update_of_ne (fun h => (Finset.mem_sdiff.mp hb).2 ((congrArg (· ∈ Pipeline.arrRefs (τ := τ) spec1) h).mpr (mem_arr1 2))) _ _)).symm)

/-! ## The run -/

abbrev EP : Emb (UR sig nD τ) (MT nD τ sig Unit (Elt F) ℕ (UR sig nD τ) ℕ) := emb₁
def u₀ : UR sig nD τ := initOf (Pipeline.cells cfgs cellOf_inj) (Pipeline.launchToks cfgs cellOf_inj)

set_option backward.isDefEq.respectTransparency.types false in
/-- Every weakly fair run of the program from memory `m` and zero counters ends, every buffer outside the kernels' own at
    the last valuation and every counter at zero. -/
theorem run_all (ρ : Dev nD → PrngReg) :
    θ_run defs (onTc (τ := τ) (main (F := F))) ⟨m, fun _ => 0, ρ⟩ (fun r => (∀ c : Dev nD, ∀ b ∈ Pipeline.ucRefs τ sig,
      r.2.mem (c, b) = V4 m (outs m) c b) ∧ r.2.sem = fun _ => 0) := by
  have hG : (iprop(bigSep Finset.univ fun _ : Dev nD => (iprop(emp) : sProp 𝕄)) : sProp 𝕄) = iprop(emp) := bigSep_emp_const _
  refine Pipeline.θ_run_regions_kit_dev_sems (pcfgs (F := F)) adm (dats m) () cellOf_inj EP defs₀ Variants.none Lnone lv0 m ρ main
    (segs m (outs m) Variants.none Lnone lv0 (fun _ => owesNone) () (dats m) (region0 m) (region1 m))
    (fun c Q => by
      rewrite [main_chain c, Seg.run_eq_chain,
        show (segs m (outs m) Variants.none Lnone lv0 (fun _ => owesNone) () (dats m) (region0 m) (region1 m) c).map Seg.prog
          = [StableHlo.seq hostOps0, Prog.lift (.customCall (Pipeline.entry 0) ()), Prog.lift (.customCall (Pipeline.entry 1) ()),
              StableHlo.seq hostOps2] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) u₀ (by
      rw [hG]
      refine (show (ownU (u₀ : UR sig nD τ) : sProp 𝕄) ⊢ iprop(BI.own (EP (F := F) (initOf (Pipeline.cells cfgs cellOf_inj) (Pipeline.launchToks cfgs cellOf_inj))) ∗ emp) from ?_).trans ?_
      · rw [show (ownU (u₀ : UR sig nD τ) : sProp 𝕄) = BI.own (EP (F := F) (initOf (Pipeline.cells cfgs cellOf_inj) (Pipeline.launchToks cfgs cellOf_inj))) from rfl]
        iintro H
        isplitl
        · iexact H
        · iempintro
      · iintro H
        imodintro
        iexact H)
    (T₀ := fun c => iprop(StableHlo.held (c : Thread nD τ) (Pipeline.ucRefs τ sig) (V0 m c) ∗ owesNone c))
    (Tₙ := fun c => StableHlo.held (c : Thread nD τ) (Pipeline.ucRefs τ sig) (V4 m (outs m) c))
    (hch := fun c => ⟨.rfl, .rfl, .rfl, .rfl, .rfl⟩)
    (hinit := ?_) (QY := fun c s => ∀ b ∈ Pipeline.ucRefs τ sig, s.mem (c, b) = V4 m (outs m) c b)
    (hfin := fun c s' => ?_) (hQ := fun _ h hz => ⟨h, funext fun g => hz g (.inr (regions_no_unscoped g.2))⟩)
  · -- at the launch each core holds its unscoped buffers and owes nothing
    refine (show _ ⊢ (bigSep Finset.univ fun c : Dev nD => iprop(StableHlo.held (c : Thread nD τ) (Pipeline.ucRefs τ sig) (V0 m c)
      ∗ owesNone c) : sProp 𝕄) from ?_).trans (by iintro H; imodintro; iexact H)
    refine (show iprop((bigSep Finset.univ fun c : Dev nD => iprop(unscopedBufs c (fun b => m ((c.tc : Thread nD τ).loc b))
        ∗ unscopedSems0 c ∗ owes (c.tc : Thread nD τ) 0 ∅ ∗ Pipeline.launchCred (fun _ => 0) c ∗ prngReg c (ρ c) ∗ emp)) ∗ levAts Lnone lv0)
      ⊢ (bigSep Finset.univ fun c : Dev nD => iprop(unscopedBufs c (fun b => m ((c.tc : Thread nD τ).loc b))
        ∗ unscopedSems0 c ∗ owes (c.tc : Thread nD τ) 0 ∅ ∗ Pipeline.launchCred (fun _ => 0) c ∗ prngReg c (ρ c) ∗ emp) : sProp 𝕄)
      from by iintro ⟨H, -⟩; iexact H).trans (bigSep_mono fun c _ => ?_)
    show iprop(unscopedBufs c (fun b => m ((c.tc : Thread nD τ).loc b))
        ∗ unscopedSems0 c ∗ owes (c.tc : Thread nD τ) 0 ∅ ∗ Pipeline.launchCred (fun _ => 0) c ∗ prngReg c (ρ c) ∗ emp)
      ⊢ iprop(StableHlo.held (c : Thread nD τ) (Pipeline.ucRefs τ sig) (V0 m c) ∗ owesNone c)
    rw [← Pipeline.unscopedBufs_held (Ix := Unit) (Name := ℕ) (U := UR sig nD τ) (Lvl := ℕ) c (V0 m c)]
    iintro ⟨Hb, -, HO, -⟩
    isplitl [Hb]; · iexact Hb
    iexists ∅
    iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro; exact h
    · iexact HSI

/-- A buffer of the host's is among those the run speaks of. -/
theorem mem_uc (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

/-- The frame: both arguments as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (V4_main_arg0 m (outs m) c),
      (h.1 c _ (mem_uc main_arg1 (by decide))).trans (V4_main_arg1 m (outs m) c)⟩, h.2⟩) (run_all m ρ)

end Cert.KernelIdeal.Hand

end
-- ==== Proof.Scalars.lean ====
/-
  The arithmetic of one query against the keys, over extended reals and away from any program: the squared distance
  as the reference writes it, the same from a query scaled by minus two as the kernel computes it, and the first of a
  stable descending sort as the largest element.
-/
module

public import Idealize.ShloMosaic.Lib.IdealHost
public import Idealize.ShloMosaic.Lib.SortFacts
public import Idealize.ShloMosaic.PureOps.Ideal.Laws

@[expose] public section

noncomputable section

namespace Cert.Dist

open Idealize.ShloMosaic

/-- The squared distance from a query to a key, cut off at zero, as the reference writes it. -/
def far (q k : Fin 128 → EReal) : EReal := max (((∑ d, q d * q d) - 2 * ∑ d, q d * k d) + ∑ d, k d * k d) 0

/-- The part of it that depends on the key, from the query scaled by minus two. -/
def part (q k : Fin 128 → EReal) : EReal := (∑ d, ((-2 : ℝ) * q d) * k d) + ∑ d, k d * k d

/-- Sums of reals are real. -/
theorem coe_sum128 (f : Fin 128 → ℝ) : (∑ d, (f d : EReal)) = ((∑ d, f d : ℝ) : EReal) :=
  (map_sum (⟨⟨Real.toEReal, rfl⟩, fun _ _ => rfl⟩ : ℝ →+ EReal) f Finset.univ).symm

/-- Of real entries, a quarter of the scaled query's square and the key's part make up the squared distance. -/
theorem far_eq (q k : Fin 128 → EReal) (hq : ∀ d, ∃ r : ℝ, q d = r) (hk : ∀ d, ∃ r : ℝ, k d = r) :
    max ((0.25 : ℝ) * (∑ d, ((-2 : ℝ) * q d) * ((-2 : ℝ) * q d)) + part q k) 0 = far q k := by
  choose u hu using hq
  choose v hv using hk
  unfold far part
  simp only [hu, hv, show (2 : EReal) = ((2 : ℝ) : EReal) from rfl, ← EReal.coe_mul, coe_sum128, ← EReal.coe_add, ← EReal.coe_sub]
  congr 2
  have h1 : ∑ d, -2 * u d * (-2 * u d) = 4 * ∑ d, u d * u d := by
    rw [Finset.mul_sum]; exact Finset.sum_congr rfl fun d _ => by ring
  have h2 : ∑ d, -2 * u d * v d = -2 * ∑ d, u d * v d := by
    rw [Finset.mul_sum]; exact Finset.sum_congr rfl fun d _ => by ring
  rw [h1, h2]; ring

/-- **The kernel's order of work.** The smallest of the keys' parts, completed and cut off, is the smallest squared
    distance. -/
theorem far_min {n : ℕ} (hn : 0 < n) (q : Fin 128 → EReal) (k : Fin n → Fin 128 → EReal) (hq : ∀ d, ∃ r : ℝ, q d = r)
    (hk : ∀ j d, ∃ r : ℝ, k j d = r) (M : EReal) (hM : ∀ x : EReal, x ≤ M ↔ ∀ j, x ≤ part q (k j)) :
    ∃ j, max ((0.25 : ℝ) * (∑ d, ((-2 : ℝ) * q d) * ((-2 : ℝ) * q d)) + M) 0 = far q (k j) ∧ ∀ j', far q (k j) ≤ far q (k j') := by
  have : Nonempty (Fin n) := ⟨⟨0, hn⟩⟩
  obtain ⟨j, hj⟩ := Finite.exists_min fun j => part q (k j)
  have e : M = part q (k j) := le_antisymm ((hM M).mp le_rfl j) ((hM _).mpr hj)
  refine ⟨j, by rw [e, far_eq q _ hq (hk j)], fun j' => ?_⟩
  rw [← far_eq q _ hq (hk j), ← far_eq q _ hq (hk j')]
  exact max_le_max (add_le_add le_rfl (hj j')) le_rfl

/-- **The first position of a stable sort, greater first,** holds a largest element. -/
theorem first_largest {n : ℕ} (G : Fin n → EReal) (before : Fin n → Fin n → Bool) (hb : ∀ a b, before a b = decide (G b < G a))
    (k : Fin n) (hk : k.val = 0) (j : Fin n) : G j ≤ G (sortedFrom before k) := by
  have hs : (sortPositions n before).Pairwise fun a b => before b a = false :=
    pairwise_stableSort before before (fun a b h => by
      rw [hb] at h ⊢; exact decide_eq_false (not_lt.mpr (of_decide_eq_true h).le)) (fun _ _ h => h)
      (fun a b c h1 h2 => by
        rw [hb] at h1 h2 ⊢
        exact decide_eq_false (not_lt.mpr ((not_lt.mp (of_decide_eq_false h1)).trans (not_lt.mp (of_decide_eq_false h2)))) ) _
  have hm : j ∈ sortPositions n before := (perm_sortPositions n before).mem_iff.mpr (List.mem_finRange j)
  unfold sortedFrom
  obtain ⟨p, hp⟩ := List.mem_iff_get.mp hm
  rw [← hp]
  by_cases h0 : p.val = 0
  · exact le_of_eq (congrArg (fun t => G ((sortPositions n before).get t)) (Fin.ext (by show p.val = k.val; omega)))
  · have := List.pairwise_iff_get.mp hs (k.cast (length_sortPositions n before).symm) p (by show k.val < p.val; omega)
    rw [hb] at this
    exact not_lt.mp (of_decide_eq_false this)

/-! ## The constants -/

theorem ofBits_two : Ideal.ofBits .f32 0x40000000#32 = 2 := by
  rw [show (2 : EReal) = ((2 : ℝ) : EReal) from rfl]
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul, -EReal.coe_neg]; norm_num
theorem ofBits_quarter : Ideal.ofBits .f32 0x3E800000#32 = ((0.25 : ℝ) : EReal) := by
  simp [Ideal.ofBits, Ideal.ieee, -EReal.coe_mul]; norm_num
theorem ofBits_top : Ideal.ofBits .f32 0x7F800000#32 = ⊤ := by
  simp [Ideal.ofBits, Ideal.ieee]

/-- A division by one changes nothing. -/
theorem div_one (x : EReal) : Ideal.div x 1 = x := by
  unfold Ideal.div; rw [if_neg one_ne_zero, inv_one, mul_one]

end Cert.Dist

end
-- ==== Proof.Tile.lean ====
/-
  What a point of the streaming kernel computes, as extended reals: lane by lane, the smallest candidate distance
  among the keys of the point that fall in the lane. A minimum is described by its lower bounds, so the kernel's tree
  of minima needs no reordering.
-/
module

public import proofs.«01_k».proof.Proof.StreamData
public import Idealize.ShloMosaic.Lib.Pointwise
public import Idealize.ShloMosaic.Lib.ValueIdx
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe

/-- The candidate distances of one half of a block, read at a query and a key. -/
theorem pay8_at (Q : FVec Ideal S3136x128 .bf16) (K : FVec Ideal S2048x128 .bf16) (N : FVec Ideal S1x2048 .f32)
    (n : Fin 3136) (c : Fin 2048) :
    k0_pay8 (F := Ideal) Q K N (ix2 n c) = (∑ d : Fin 128, Q (ix2 n d) * K (ix2 c d)) + N (ix2 0 c) := by
  pointwise [k0_pay8]

/-- The lower bounds of the minimum over the lane slices of the first half, -/
theorem le_lo (Q : FVec Ideal S3136x128 .bf16) (K : FVec Ideal S2048x128 .bf16)
    (N : FVec Ideal S1x2048 .f32) (x : EReal) (n : Fin 3136) (l : Fin 128) :
    (x ≤ k0_pay9 (F := Ideal) Q K N (ix2 n l) ∧ x ≤ k0_pay10 (F := Ideal) Q K N (ix2 n l)
      ∧ x ≤ k0_pay11 (F := Ideal) Q K N (ix2 n l))
    ↔ ∀ s : Fin 16, x ≤ k0_pay8 (F := Ideal) Q K N (ix2 n ⟨128 * s.val + l.val, by omega⟩) := by
  pointwise [k0_pay9, k0_pay10, k0_pay11]
  generalize k0_pay8 (F := Ideal) Q K N = V
  simp only [le_min_iff]
  constructor
  · rintro ⟨⟨⟨h8, h9⟩, h10, h11⟩, ⟨⟨h12, h13⟩, h14, h15⟩, ⟨⟨h0, h1⟩, h2, h3⟩, ⟨h4, h5⟩, h6, h7⟩ s
    fin_cases s
    exacts [by simpa using h0, h1, h2, h3, h4, h5, h6, h7, h8, h9, h10, h11, h12, h13, h14, h15]
  · intro h
    exact ⟨⟨⟨h 8, h 9⟩, h 10, h 11⟩, ⟨⟨h 12, h 13⟩, h 14, h 15⟩, ⟨⟨by simpa using h 0, h 1⟩, h 2, h 3⟩, ⟨h 4, h 5⟩, h 6, h 7⟩

/-- and of a point's minimum, from those of its first half. -/
theorem le_pay12 (A B C : FVec Ideal S3136x128 .f32) (Q : FVec Ideal S3136x128 .bf16) (K : FVec Ideal S2048x128 .bf16)
    (N : FVec Ideal S1x2048 .f32) (x : EReal) (n : Fin 3136) (l : Fin 128) :
    x ≤ k0_pay12 (F := Ideal) A B C Q K N (ix2 n l)
    ↔ (x ≤ A (ix2 n l) ∧ x ≤ B (ix2 n l) ∧ x ≤ C (ix2 n l)) ∧
      ∀ s : Fin 16, x ≤ k0_pay8 (F := Ideal) Q K N (ix2 n ⟨128 * s.val + l.val, by omega⟩) := by
  have e : addf (matmul dot_S3136x128_S2048x128_S3136x2048_1_1_0_0_n_n none (shapeCast S3136x128 Q shapeCasts_S3136x128_S3136x128) K
    (constant S3136x2048 .f32 0x00000000#32)) (broadcastTo S3136x2048 N broadcasts_S1x2048_S3136x2048) = k0_pay8 (F := Ideal) Q K N := rfl
  unfold k0_pay12
  simp only [e]
  generalize k0_pay8 (F := Ideal) Q K N = V
  pointwise
  simp only [le_min_iff]
  constructor
  · rintro ⟨⟨hC, hA, hB⟩, ⟨⟨⟨h0, h1⟩, h2, h3⟩, ⟨h4, h5⟩, h6, h7⟩, ⟨⟨h8, h9⟩, h10, h11⟩, ⟨h12, h13⟩, h14, h15⟩
    refine ⟨⟨hA, hB, hC⟩, fun s => ?_⟩
    fin_cases s
    exacts [by simpa using h0, h1, h2, h3, h4, h5, h6, h7, h8, h9, h10, h11, h12, h13, h14, h15]
  · rintro ⟨⟨hA, hB, hC⟩, h⟩
    exact ⟨⟨hC, hA, hB⟩, ⟨⟨⟨by simpa using h 0, h 1⟩, h 2, h 3⟩, ⟨h 4, h 5⟩, h 6, h 7⟩, ⟨⟨h 8, h 9⟩, h 10, h 11⟩, ⟨h 12, h 13⟩,
      h 14, h 15⟩

/-- The pad, read at the ideal values. -/
theorem pad_eq : (Named.named κ "pad" 0x7F61B1E6#32 : Ideal .f32) = (⊤ : EReal) := rfl

/-- The squared norms of the two halves, as the kernel masks them: the pad stands at the top. -/
theorem normLo_at (i : grid0.Coords) (X : FVec Ideal S4096x128 .f32) (a : Fin 1) (c : Fin 2048) :
    View.ld (normLo (F := Ideal) i X) rRow (ix2 a c)
      = if 4096 * (i 0).val + c.val < 100000 then ∑ d : Fin 128, k0_pay1 (F := Ideal) i (View.ld X rLo) (ix2 c d) * k0_pay1 (F := Ideal) i (View.ld X rLo) (ix2 c d)
        else ⊤ := by
  have h := fun u v : EReal => select_slt c.val c.isLt (Scalar.subi 100000#32 (Scalar.muli (BitVec.ofNat 32 (i 0).val) 4096#32)) u v
  rw [left_toInt] at h
  pointwise [normLo, k0_pay3]
  rw [h, pad_eq]
  exact if_congr ⟨fun _ => by omega, fun _ => by omega⟩ rfl rfl
theorem normHi_at (i : grid0.Coords) (X : FVec Ideal S4096x128 .f32) (a : Fin 1) (c : Fin 2048) :
    View.ld (normHi (F := Ideal) i X) rRow (ix2 a c)
      = if 4096 * (i 0).val + 2048 + c.val < 100000 then ∑ d : Fin 128, k0_pay4 (F := Ideal) i (View.ld X rHi) (ix2 c d) * k0_pay4 (F := Ideal) i (View.ld X rHi) (ix2 c d)
        else ⊤ := by
  have h := fun u v : EReal => select_slt c.val c.isLt (leftHi i) u v
  rw [leftHi_toInt] at h
  pointwise [normHi, k0_pay7, k0_pay6]
  rw [h, pad_eq]
  exact if_congr ⟨fun _ => by omega, fun _ => by omega⟩ rfl rfl

/-- A query's candidate distance to the key of number `r`, short of the query's own squared norm; numbers past the last
    key stand at the top. -/
def cand (Q : FVec Ideal S3136x128 .bf16) (K : FVec Ideal S100000x128 .f32) (n : Fin 3136) (r : ℕ) : EReal :=
  if h : r < 100000 then (∑ d : Fin 128, Q (ix2 n d) * K (ix2 ⟨r, h⟩ d)) + ∑ d : Fin 128, K (ix2 ⟨r, h⟩ d) * K (ix2 ⟨r, h⟩ d)
  else ⊤

/-- The candidates of the two halves of a point's block. -/
theorem candLo (i : grid0.Coords) (Q : FVec Ideal S3136x128 .bf16) (K : FVec Ideal S100000x128 .f32) (n : Fin 3136) (c : Fin 2048) :
    k0_pay8 (F := Ideal) Q (keysLo i (keysBlk K i)) (View.ld (normLo i (keysBlk K i)) rRow) (ix2 n c)
      = cand Q K n (4096 * (i 0).val + c.val) := by
  rw [pay8_at, normLo_at]
  have hk : ∀ d : Fin 128, k0_pay1 (F := Ideal) i (View.ld (keysBlk K i) rLo) (ix2 c d)
      = if h : 4096 * (i 0).val + c.val < 100000 then K (ix2 ⟨_, h⟩ d) else (0 : EReal) := fun d => by
    rw [keep_lo]
    pointwise [keysBlk]
    by_cases h : 4096 * (i 0).val + c.val < 100000
    · rw [if_pos h, dif_pos h, dif_pos h]; rfl
    · rw [if_neg h, dif_neg h]
  have hq : ∀ d : Fin 128, keysLo (F := Ideal) i (keysBlk K i) (ix2 c d) = k0_pay1 (F := Ideal) i (View.ld (keysBlk K i) rLo) (ix2 c d) :=
    fun d => by pointwise [keysLo, k0_pay2]
  simp only [hq, hk]
  unfold cand
  by_cases h : 4096 * (i 0).val + c.val < 100000
  · simp only [h, ↓reduceDIte, ↓reduceIte]
  · simp only [h, ↓reduceDIte, ↓reduceIte, mul_zero, Finset.sum_const_zero, zero_add]

theorem candHi (i : grid0.Coords) (Q : FVec Ideal S3136x128 .bf16) (K : FVec Ideal S100000x128 .f32) (n : Fin 3136) (c : Fin 2048) :
    k0_pay8 (F := Ideal) Q (keysHi i (keysBlk K i)) (View.ld (normHi i (keysBlk K i)) rRow) (ix2 n c)
      = cand Q K n (4096 * (i 0).val + 2048 + c.val) := by
  rw [pay8_at, normHi_at]
  have hk : ∀ d : Fin 128, k0_pay4 (F := Ideal) i (View.ld (keysBlk K i) rHi) (ix2 c d)
      = if h : 4096 * (i 0).val + 2048 + c.val < 100000 then K (ix2 ⟨_, h⟩ d) else (0 : EReal) := fun d => by
    rw [keep_hi]
    pointwise [keysBlk]
    by_cases h : 4096 * (i 0).val + 2048 + c.val < 100000
    · have h' : 4096 * (i 0).val + (2048 + c.val) < 100000 := by omega
      rw [if_pos h, dif_pos h, dif_pos h']
      exact congrArg (fun r => K (ix2 r d)) (Fin.ext (show 4096 * (i 0).val + (2048 + c.val) = 4096 * (i 0).val + 2048 + c.val by omega))
    · rw [if_neg h, dif_neg h]
  have hq : ∀ d : Fin 128, keysHi (F := Ideal) i (keysBlk K i) (ix2 c d) = k0_pay4 (F := Ideal) i (View.ld (keysBlk K i) rHi) (ix2 c d) :=
    fun d => by pointwise [keysHi, k0_pay5]
  simp only [hq, hk]
  unfold cand
  by_cases h : 4096 * (i 0).val + 2048 + c.val < 100000
  · simp only [h, ↓reduceDIte, ↓reduceIte]
  · simp only [h, ↓reduceDIte, ↓reduceIte, mul_zero, Finset.sum_const_zero, zero_add]

/-- **A point's minimum**, by its lower bounds. -/
theorem le_tileMin (i : grid0.Coords) (Q : FVec Ideal S3136x128 .bf16) (K : FVec Ideal S100000x128 .f32) (x : EReal)
    (n : Fin 3136) (l : Fin 128) :
    x ≤ tileMin (F := Ideal) i Q (keysBlk K i) (ix2 n l)
      ↔ ∀ s : ℕ, s < 32 → x ≤ cand Q K n (4096 * (i 0).val + 128 * s + l.val) := by
  unfold tileMin
  rw [le_pay12, le_lo]
  simp only [candLo, candHi]
  constructor
  · rintro ⟨h1, h2⟩ s hs
    by_cases h : s < 16
    · have := h1 ⟨s, h⟩
      rwa [← Nat.add_assoc] at this
    · have := h2 ⟨s - 16, by omega⟩
      rwa [show 4096 * (i 0).val + 2048 + (128 * (s - 16) + l.val) = 4096 * (i 0).val + 128 * s + l.val by omega] at this
  · intro h
    refine ⟨fun s => ?_, fun s => ?_⟩
    · have := h s.val (by omega)
      rwa [Nat.add_assoc] at this
    · have := h (s.val + 16) (by omega)
      rwa [show 4096 * (i 0).val + 128 * (s.val + 16) + l.val = 4096 * (i 0).val + 2048 + (128 * s.val + l.val) by omega] at this

/-- **The running minimum after `t` points**, by its lower bounds. -/
theorem le_run (Q : FVec Ideal S3136x128 .bf16) (K : FVec Ideal S100000x128 .f32) (x : EReal) (n : Fin 3136) (l : Fin 128) :
    ∀ t : ℕ, 0 < t → t ≤ grid0.N →
      (x ≤ run (F := Ideal) Q K t (ix2 n l) ↔ ∀ s : ℕ, s < 32 * t → x ≤ cand Q K n (128 * s + l.val))
  | 0, h, _ => absurd h (by omega)
  | t + 1, _, ht => by
    have hc := coord_eq ⟨t, ht⟩
    have e := run_succ (F := Ideal) Q K ⟨t, ht⟩
    have tile := le_tileMin (grid0.coords ⟨t, ht⟩) Q K x n l
    rw [hc] at tile
    simp only at e hc tile
    rw [e]
    unfold step
    rw [hc]
    have late : (∀ s : ℕ, s < 32 → x ≤ cand Q K n (4096 * t + 128 * s + l.val))
        ↔ ∀ s : ℕ, 32 * t ≤ s → s < 32 * (t + 1) → x ≤ cand Q K n (128 * s + l.val) := by
      constructor
      · intro h s h1 h2
        have := h (s - 32 * t) (by omega)
        rwa [show 4096 * t + 128 * (s - 32 * t) = 128 * s by omega] at this
      · intro h s hs
        have := h (s + 32 * t) (by omega) (by omega)
        rwa [show 128 * (s + 32 * t) = 4096 * t + 128 * s by omega] at this
    by_cases h0 : t = 0
    · rw [if_pos h0, tile, late]
      exact ⟨fun h s hs => h s (by omega) hs, fun h s _ hs => h s hs⟩
    · rw [if_neg h0, fold_eq]
      pointwise
      rw [le_min_iff, tile, late, le_run Q K x n l t (by omega) (by omega)]
      exact ⟨fun h s hs => if hst : s < 32 * t then h.1 s hst else h.2 s (by omega) hs,
        fun h => ⟨fun s hs => h s (by omega), fun s _ hs => h s hs⟩⟩

end Cert.KernelIdeal.Hand

end
-- ==== Proof.Value.lean ====
/-
  What the program's results hold, as extended reals: the distance of each query to its nearest key, and the largest
  distance of each image.
-/
module

public import proofs.«01_k».proof.Proof.Scalars
public import proofs.«01_k».proof.Proof.Tile
public import proofs.«01_k».proof.Proof.Whole

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The two arguments. -/
abbrev argQ : FVec Ideal S3136x128 .f32 := m ((c.tc : Thread nD τ).loc main_arg0)
abbrev argK : FVec Ideal S100000x128 .f32 := m ((c.tc : Thread nD τ).loc main_arg1)

/-- The kernels' queries are the argument's, scaled by minus two. -/
theorem queries_at (n : Fin 3136) (d : Fin 128) : queries m c (ix2 n d) = ((-2 : ℝ) : EReal) * argQ m c (ix2 n d) := by
  have e : queries m c = truncf (F := Ideal) .bf16 (mulf (broadcastInDim S3136x128 ![] bcast_S_S3136x128 (constant S_ .f32 0xC0000000#32)) (argQ m c)) bitsLt_bf16_f32 := by
    unfold queries V1
    after_results_simp <;> rfl
  rw [e]
  pointwise
  rw [Dist.ofBits_neg_two]

theorem keys_eq : V1 m c main_arg1 = argK m c := V1_of m c main_arg1 (by decide)

/-- A query's smallest candidate, over the lanes, by its lower bounds. -/
theorem le_minima (x : EReal) (n : Fin 3136) :
    (∀ l : Fin 128, x ≤ minima m c (ix2 n l)) ↔
      ∀ r : Fin 100000, x ≤ Dist.part (fun d => argQ m c (ix2 n d)) (fun d => argK m c (ix2 r d)) := by
  have hc : ∀ r : Fin 100000, cand (queries m c) (argK m c) n r.val = Dist.part (fun d => argQ m c (ix2 n d)) (fun d => argK m c (ix2 r d)) := fun r => by
    unfold cand Dist.part
    rw [dif_pos r.isLt]
    simp only [queries_at]
  unfold minima
  rw [keys_eq]
  have hN : (25 : ℕ) ≤ grid0.N := le_of_eq N_0.symm
  constructor
  · intro h r
    rw [← hc]
    have := (le_run (queries m c) (argK m c) x n ⟨r.val % 128, Nat.mod_lt _ (by decide)⟩ 25 (by decide) hN).mp (h _) (r.val / 128) (by omega)
    rwa [show 128 * (r.val / 128) + r.val % 128 = r.val by omega] at this
  · intro h l
    refine (le_run (queries m c) (argK m c) x n l 25 (by decide) hN).mpr fun s _ => ?_
    by_cases hr : 128 * s + l.val < 100000
    · exact (h ⟨_, hr⟩).trans_eq (hc ⟨_, hr⟩).symm
    · unfold cand; rw [dif_neg hr]; exact le_top

/-- **The kernel's distances**, of real arguments. -/
theorem pay1_at (hQ : ∀ j, ∃ r : ℝ, argQ m c j = r) (hK : ∀ j, ∃ r : ℝ, argK m c j = r) (n : Fin 3136) :
    ∃ r : Fin 100000, k1_pay1 (F := Ideal) (queries m c) (minima m c) (ix2 ⟨n.val / 784, by omega⟩ ⟨n.val % 784, by omega⟩)
        = Ideal.sqrt (Dist.far (fun d => argQ m c (ix2 n d)) (fun d => argK m c (ix2 r d)) + Ideal.ofBits .f32 0x2B8CBCCC#32)
      ∧ ∀ r' : Fin 100000, Dist.far (fun d => argQ m c (ix2 n d)) (fun d => argK m c (ix2 r d))
          ≤ Dist.far (fun d => argQ m c (ix2 n d)) (fun d => argK m c (ix2 r' d)) := by
  obtain ⟨r, hr, hmin⟩ := Dist.far_min (by decide : 0 < 100000) (fun d => argQ m c (ix2 n d)) (fun r d => argK m c (ix2 r d))
    (fun d => hQ _) (fun r d => hK _)
    ((Finset.univ : Finset (Fin 128)).fold min ⊤ fun l => minima m c (ix2 n l)) (fun x => by
      rw [Finset.le_fold_min, ← le_minima]; simp)
  refine ⟨r, ?_, hmin⟩
  rw [← hr]
  have hn : n.val / 784 * 784 + n.val % 784 = n.val := by omega
  pointwise [k1_pay1]
  simp only [Dist.ofBits_quarter, Dist.ofBits_top, queries_at]

/-! ## The two results -/

/-- The second result is the distances, flat. -/
theorem v5_at (n : Fin 3136) : (V4 m (outs m) c main_v5 : FVec Ideal S3136 .f32) (ix1 n)
    = k1_pay1 (F := Ideal) (queries m c) (minima m c) (ix2 ⟨n.val / 784, by omega⟩ ⟨n.val % 784, by omega⟩) := by
  have e : (V4 m (outs m) c main_v5 : FVec Ideal S3136 .f32) = shapeCast S3136 (V3 m (outs m) c main_v4_0 : FVec Ideal S4x1x784 .f32) shapeCasts_S4x1x784_S3136 := by
    unfold V4
    after_results_simp <;> rfl
  rw [e, V3_v4_0]
  pointwise [k1_pay2]

/-- The first result is the largest distance of each image. -/
theorem v7_at (b : Fin 4) : (V4 m (outs m) c main_v7 : FVec Ideal S4 .f32) (ix1 b)
    = (Finset.univ : Finset (Fin 784)).fold max (Ideal.ofBits .f32 0xFF800000#32)
        fun p => k1_pay1 (F := Ideal) (queries m c) (minima m c) (ix2 b p) := by
  have e : (V4 m (outs m) c main_v7 : FVec Ideal S4 .f32) = shapeCast S4 (extractStridedSlice S4x1x1 ![0, 0, 0]
      (V3 m (outs m) c main_v4_1 : FVec Ideal S4x1x128 .f32) slices_S4x1x128_S4x1x1_0_0_0) shapeCasts_S4x1x1_S4 := by
    unfold V4
    after_results_simp <;> rfl
  rw [e, V3_v4_1]
  pointwise [k1_pay3]

end Cert.KernelIdeal.Hand

end
-- ==== Proof.RefValue.lean ====
/-
  The reference's distances, read: the square root of the smallest squared distance and the small constant.
-/
module

public import proofs.«01_k».proof.Proof.Scalars
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Read Cert.ReferenceIdeal.Gen
open Idealize.ShloMosaic Idealize.ShloMosaic.TcCoe

/-- The one value kept of a row of a `topK`: a largest one. -/
theorem top_row (x : FVec Ideal S3136x100000 .f32) (n : Fin 3136) (a : Fin 1) :
    ∃ r : Fin 100000, (Host.topK S3136x1 1 (FloatOps.cmpfTotal .gt) x sliceFits_S3136x100000_S3136x1).1 (ix2 n a) = x (ix2 n r)
      ∧ ∀ r' : Fin 100000, x (ix2 n r') ≤ x (ix2 n r) := by
  have along : ∀ (b k : Fin 100000), (ix2 n b : S3136x100000.Idx).along 1 k = ix2 n k := fun b k => by
    funext t; fin_cases t <;> rfl
  refine ⟨sortedFrom (fun k k' => FloatOps.cmpfTotal (F := Ideal) (φ := .f32) .gt (x (ix2 n k)) (x (ix2 n k')) == 1#1) ⟨0, by omega⟩, ?_, fun r' => ?_⟩
  · unfold Host.topK
    pointwise
    unfold Host.sort2
    rw [dif_pos (show 1 < S3136x100000.rank by decide)]
    show x ((ix2 n (0 : Fin 100000) : S3136x100000.Idx).along 1 (sortedFrom (n := 100000) (fun k k' : Fin 100000 =>
      FloatOps.cmpfTotal (F := Ideal) (φ := .f32) .gt (x ((ix2 n (0 : Fin 100000) : S3136x100000.Idx).along 1 k))
        (x ((ix2 n (0 : Fin 100000) : S3136x100000.Idx).along 1 k')) == 1#1) (0 : Fin 100000))) = _
    rw [along]
    simp only [along]
  · exact Dist.first_largest (fun r => x (ix2 n r)) _ (fun a b => by
      show (Ideal.cmp .ogt _ _ == 1#1) = _
      unfold Ideal.cmp
      by_cases h : x (ix2 n b) < x (ix2 n a) <;> simp [h]) ⟨0, by omega⟩ rfl r'

/-- The squared distances of the reference. -/
theorem far_at (x0 : FVec Ideal S3136x128 .f32) (x1 : FVec Ideal S100000x128 .f32) (n : Fin 3136) (r : Fin 100000) :
    val_main_v15 (F := Ideal) x0 x1 (ix2 n r) = Dist.far (fun d => x0 (ix2 n d)) (fun d => x1 (ix2 r d)) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, Dist.far]
  rw [Dist.ofBits_two]

/-- **The reference's distances.** -/
theorem dist_at (x0 : FVec Ideal S3136x128 .f32) (x1 : FVec Ideal S100000x128 .f32) (n : Fin 3136) :
    ∃ r : Fin 100000, val_main_v23 (F := Ideal) x0 x1 (ix1 n)
        = Ideal.sqrt (Dist.far (fun d => x0 (ix2 n d)) (fun d => x1 (ix2 r d)) + Ideal.ofBits .f32 0x2B8CBCCC#32)
      ∧ ∀ r' : Fin 100000, Dist.far (fun d => x0 (ix2 n d)) (fun d => x1 (ix2 r d)) ≤ Dist.far (fun d => x0 (ix2 n d)) (fun d => x1 (ix2 r' d)) := by
  obtain ⟨r, hr, hmin⟩ := top_row (val_main_v16 (F := Ideal) x0 x1) n 0
  have e : ∀ r, val_main_v16 (F := Ideal) x0 x1 (ix2 n r) = -Dist.far (fun d => x0 (ix2 n d)) (fun d => x1 (ix2 r d)) := fun r => by
    rw [← far_at]; rfl
  refine ⟨r, ?_, fun r' => ?_⟩
  · have hv : val_main_values (F := Ideal) x0 x1 (ix2 n 0) = -Dist.far (fun d => x0 (ix2 n d)) (fun d => x1 (ix2 r d)) := hr.trans (e r)
    pointwise [val_main_v23, val_main_v22, val_main_v21, val_main_v20, val_main_v19, val_main_v18, val_main_v17, val_main_cst_3, val_main_cst_4,
      val_main_cst_5]
    rw [Fin.sum_univ_one, hv, neg_neg, Dist.div_one]
  · have := hmin r'
    rw [e, e] at this
    exact EReal.neg_le_neg_iff.mp this

/-- The reference's image scores: the largest distance of each image. -/
theorem image_at (x0 : FVec Ideal S3136x128 .f32) (x1 : FVec Ideal S100000x128 .f32) (b : Fin 4) :
    val_main_v25 (F := Ideal) x0 x1 (ix1 b) = (Finset.univ : Finset (Fin 784)).fold max (Ideal.ofBits .f32 0xFF800000#32)
      fun p => val_main_v23 (F := Ideal) x0 x1 (ix1 ⟨b.val * 784 + p.val, by omega⟩) := by
  pointwise [val_main_v25, val_main_v24, val_main_cst_6]

end Cert.ReferenceIdeal.Hand

end
-- ==== Proof.Agree.lean ====
/-
  The kernel's results and the reference's are the same arrays, of arguments whose entries are all real numbers.
-/
module

public import proofs.«01_k».proof.Proof.Value
public import proofs.«01_k».proof.Proof.RefValue
public import proofs.«01_k».proof.Pre_finite

@[expose] public section

set_option maxRecDepth 16384

noncomputable section

namespace Cert.Agree

open Idealize.ShloMosaic Idealize.ShloMosaic.TcCoe Idealize.SL.Sem
open Cert.KernelIdeal.Hand (argQ argK outs queries minima pay1_at v5_at v7_at)

/-- A number smaller than the top in absolute value is real. -/
theorem real_of_abs (x : EReal) (h : max x (-x) < ⊤) : ∃ r : ℝ, x = r := by
  induction x with
  | bot => simp at h
  | coe r => exact ⟨r, rfl⟩
  | top => simp at h

/-- What the precondition says of one element. -/
theorem real_of_cmp (x : EReal) (h : FloatOps.cmpf (F := Ideal) (φ := .f32) .olt (FloatOps.hostAbsf (F := Ideal) (φ := .f32) x) (Ideal.ofBits .f32 0x7F800000#32) = 1#1) :
    ∃ r : ℝ, x = r := by
  refine real_of_abs x ?_
  rw [Dist.ofBits_top] at h
  change BitVec.ofBool (decide (max x (-x) < ⊤)) = 1#1 at h
  by_contra hn
  rw [decide_eq_false hn] at h
  exact absurd h (by decide)

theorem real_args [Pre_finite.Facts] (x0 : FVec Ideal Pre_finite.S3136x128 .f32) (x1 : FVec Ideal Pre_finite.S100000x128 .f32)
    (h : (Pre_finite.fn (F := Ideal) x0 x1).1 = (fun _ => 1#1) ∧ (Pre_finite.fn (F := Ideal) x0 x1).2 = fun _ => 1#1) :
    (∀ j, ∃ r : ℝ, x0 j = r) ∧ ∀ j, ∃ r : ℝ, x1 j = r := by
  refine ⟨fun j => real_of_cmp _ ?_, fun j => real_of_cmp _ ?_⟩
  · have := congrFun h.1 j
    pointwise [Pre_finite.fn] at this
    exact this
  · have := congrFun h.2 j
    pointwise [Pre_finite.fn] at this
    exact this

variable (m : (ℓ : Loc KernelIdeal.nD KernelIdeal.τ KernelIdeal.sig) → Buf (Elt Ideal) ℓ) (c : Dev KernelIdeal.nD)

/-- The distances agree, -/
theorem pay1_eq (hQ : ∀ j, ∃ r : ℝ, argQ m c j = r) (hK : ∀ j, ∃ r : ℝ, argK m c j = r) (n : Fin 3136) :
    KernelIdeal.Gen.k1_pay1 (F := Ideal) (queries m c) (minima m c) (ix2 ⟨n.val / 784, by omega⟩ ⟨n.val % 784, by omega⟩)
      = ReferenceIdeal.Read.val_main_v23 (F := Ideal) (argQ m c) (argK m c) (ix1 n) := by
  obtain ⟨r, e, hr⟩ := pay1_at m c hQ hK n
  obtain ⟨r', e', hr'⟩ := ReferenceIdeal.Hand.dist_at (argQ m c) (argK m c) n
  rw [e, e', le_antisymm (hr r') (hr' r)]

theorem dist_eq (hQ : ∀ j, ∃ r : ℝ, argQ m c j = r) (hK : ∀ j, ∃ r : ℝ, argK m c j = r) :
    (KernelIdeal.Gen.V4 m (outs m) c KernelIdeal.main_v5 : FVec Ideal KernelIdeal.S3136 .f32)
      = ReferenceIdeal.Read.val_main_v23 (F := Ideal) (argQ m c) (argK m c) := by
  funext j
  rw [eq_ix1 j]
  exact (v5_at m c (j 0)).trans (pay1_eq m c hQ hK (j 0))

/-- and so do the largest distances of the images. -/
theorem image_eq (hQ : ∀ j, ∃ r : ℝ, argQ m c j = r) (hK : ∀ j, ∃ r : ℝ, argK m c j = r) :
    (KernelIdeal.Gen.V4 m (outs m) c KernelIdeal.main_v7 : FVec Ideal KernelIdeal.S4 .f32)
      = ReferenceIdeal.Read.val_main_v25 (F := Ideal) (argQ m c) (argK m c) := by
  funext j
  rw [eq_ix1 j]
  refine (v7_at m c (j 0)).trans (Eq.trans ?_ (ReferenceIdeal.Hand.image_at (argQ m c) (argK m c) (j 0)).symm)
  refine congrArg (fun f => (Finset.univ : Finset (Fin 784)).fold max (Ideal.ofBits .f32 0xFF800000#32) f) (funext fun p => ?_)
  have hb : (j 0).val < 4 := (j 0).isLt
  rw [← pay1_eq m c hQ hK]
  exact congrArg _ (congrArg₂ ix2 (Fin.ext (show (j 0).val = ((j 0).val * 784 + p.val) / 784 by omega))
    (Fin.ext (show p.val = ((j 0).val * 784 + p.val) % 784 by omega)))

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.BitsWhole
public import proofs.«01_k».proof.Proof.Whole
public import proofs.«01_k».proof.Proof.Agree
public import Idealize.ShloMosaic.Lib.Quiescent

@[expose] public section

namespace Cert.Proof

open Idealize.ShloMosaic Idealize.ShloMosaic.TcCoe Idealize.SL.Sem

/-- The shape relations of the precondition's two comparisons. -/
theorem preFacts : Cert.Pre_finite.Facts where
  bcast_S_S3136x128 := by decide
  bcast_S_S100000x128 := by decide

/-- The reference ends with its results, its arguments as launched, and no semaphore to have counted. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
        ∧ r.2.sem = fun _ => 0) :=
  (θ_run _ _ _).mono (fun r h => ⟨fun c => (h c).2.2, sem_eq_zero_of_no_sems (by decide) r.2⟩)
    (ReferenceIdeal.Value.run (F := Ideal) m g)

/-- Kernel and reference compute the same two arrays of real arguments. -/
theorem algebraic :
    algebraic_KernelIdeal_ReferenceIdeal_pre_finite (hKernelIdeal := KernelIdeal.Gen.facts)
      (hReferenceIdeal := ReferenceIdeal.Gen.facts) (hPre_finite := preFacts) := by
  intro m g m' g' hpre heq
  refine ⟨fun c => KernelIdeal.Gen.V4 m (KernelIdeal.Hand.outs m) c KernelIdeal.main_v7,
    fun c => KernelIdeal.Gen.V4 m (KernelIdeal.Hand.outs m) c KernelIdeal.main_v5, ?_, ?_⟩
  · exact (θ_run _ _ _).mono (fun r h c =>
      ⟨h.1 c _ (KernelIdeal.Hand.mem_uc KernelIdeal.main_v7 (by decide)),
        h.1 c _ (KernelIdeal.Hand.mem_uc KernelIdeal.main_v5 (by decide)),
        (h.1 c _ (KernelIdeal.Hand.mem_uc KernelIdeal.main_arg0 (by decide))).trans (KernelIdeal.Gen.V4_main_arg0 m _ c),
        (h.1 c _ (KernelIdeal.Hand.mem_uc KernelIdeal.main_arg1 (by decide))).trans (KernelIdeal.Gen.V4_main_arg1 m _ c)⟩)
      (KernelIdeal.Hand.run_all (F := Ideal) m g)
  · refine (θ_run _ _ _).mono (fun r h c => ?_) (ReferenceIdeal.Value.run (F := Ideal) m' g')
    obtain ⟨h25, h23, h0, h1⟩ := h c
    obtain ⟨hQ, hK⟩ := @Agree.real_args preFacts _ _ (hpre c)
    obtain ⟨e0, e1⟩ := heq c
    refine ⟨?_, ?_, h0, h1⟩
    · rw [h25, ReferenceIdeal.Read.val_main_v25_eq, e0, e1]
      exact (Agree.image_eq m c hQ hK).symm
    · rw [h23, ReferenceIdeal.Read.val_main_v23_eq, e0, e1]
      exact (Agree.dist_eq m c hQ hK).symm

/-- Every claim of the certificate. -/
theorem claim : Cert.Claim :=
  ⟨Kernel.Gen.facts, KernelIdeal.Gen.facts, ReferenceIdeal.Gen.facts, preFacts,
    fun m g _ => Kernel.Hand.frame (F := Bits) m g,
    fun m g _ => KernelIdeal.Hand.frame (F := Ideal) m g,
    fun m g _ => KernelIdeal.Hand.frame (F := Ideal) m g,
    fun m g _ => reference_run m g,
    fun m g _ => reference_run m g,
    IdealRules.named_const.statement Cert.KernelIdeal.κ "pad" .f32 0x7F61B1E6#32 ⊤ rfl,
    algebraic⟩

end Cert.Proof

end
